-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale2" .f32 0x3E16C740#32 (((Real.sqrt 96)⁻¹ * (Real.log 2)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 64]⟩ ⟨2, ![1024, 128]⟩ (Layout.meshBlock [2, 2, 2] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![64, 1024]⟩ ⟨2, ![128, 1024]⟩ (Layout.meshBlock [2, 2, 2] ![[2], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![64, 1024]⟩ ⟨2, ![128, 1024]⟩ (Layout.meshBlock [2, 2, 2] ![[2], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v31) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bcast_S_S2x256x1024 : S_.BroadcastsInDim S2x256x1024 (![] : Fin 0 → Fin S2x256x1024.rank)
  reducesTo_S2x256x1024_S_d0_1_2 : S2x256x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64x1024 : S_.BroadcastsInDim S64x1024 (![] : Fin 0 → Fin S64x1024.rank)
  reducesTo_S64x1024_S_d0_1 : S64x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part2 {F : FTy → Type} [FloatOps F] (main_arg7 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  main_v38

def fn_part1 {F : FTy → Type} [FloatOps F] (main_arg4 : FVec F S1024x1024 .f32) (main_arg5 : FVec F S1024x512 .f32) (main_arg6 : FVec F S1024x32 .f32) (main_arg7 : FVec F S1024x1024 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1024x32 .f32 := Host.absf main_arg6
  let main_cst_10 : FVec F S_ .f32 := constant S_ .f32 0x7F800000#32
  let main_v30 : FVec F S1024x32 .f32 := broadcastInDim S1024x32 ![] bcast_S_S1024x32 main_cst_10
  let main_v31 : IVec S1024x32 1 := cmpf .olt main_v29 main_v30
  let main_c_11 : IVec S_ 1 := constantI S_ 1 1#1
  let main_v32 : IVec S_ 1 := (fun x v => Host.reduce IntOp.andi x v reducesTo_S1024x32_S_d0_1 h_S_) main_v31 main_c_11
  let main_v33 : IVec S_ 1 := andi main_v28 main_v32
  fn_part2 (F := F) main_arg7 main_v33

def fn {F : FTy → Type} [FloatOps F] (main_arg0 : FVec F S2x256x1024 .f32) (main_arg1 : FVec F S1024x64 .f32) (main_arg2 : FVec F S64x1024 .f32) (main_arg3 : FVec F S64x1024 .f32) (main_arg4 : FVec F S1024x1024 .f32) (main_arg5 : FVec F S1024x512 .f32) (main_arg6 : FVec F S1024x32 .f32) (main_arg7 : FVec F S1024x1024 .f32) : IVec S_ 1 :=
  let main_v0 : FVec F S2x256x1024 .f32 := Host.absf main_arg0
  let main_cst : FVec F S_ .f32 := constant S_ .f32 0x7F800000#32
  let main_v1 : FVec F S2x256x1024 .f32 := broadcastInDim S2x256x1024 ![] bcast_S_S2x256x1024 main_cst
  let main_v2 : IVec S2x256x1024 1 := cmpf .olt main_v0 main_v1
  let main_c : IVec S_ 1 := constantI S_ 1 1#1
  let main_v3 : IVec S_ 1 := (fun x v => Host.reduce IntOp.andi x v reducesTo_S2x256x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_arg6 main_arg7 main_v13 main_v16
-- ==== Pre_finite_ReferenceIdeal.lean ====
abbrev S2x256x1024 : Shape := ⟨3, ![2, 256, 1024]⟩
abbrev S1024x128 : Shape := ⟨2, ![1024, 128]⟩
abbrev S128x1024 : Shape := ⟨2, ![128, 1024]⟩
abbrev S1024x1024 : Shape := ⟨2, ![1024, 1024]⟩
abbrev S1024x512 : Shape := ⟨2, ![1024, 512]⟩
abbrev S1024x32 : Shape := ⟨2, ![1024, 32]⟩
abbrev S_ : Shape := ⟨0, ![]⟩

class Facts : Prop where
  bcast_S_S2x256x1024 : S_.BroadcastsInDim S2x256x1024 (![] : Fin 0 → Fin S2x256x1024.rank)
  reducesTo_S2x256x1024_S_d0_1_2 : S2x256x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128x1024 : S_.BroadcastsInDim S128x1024 (![] : Fin 0 → Fin S128x1024.rank)
  reducesTo_S128x1024_S_d0_1 : S128x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1024x32 : S_.BroadcastsInDim S1024x32 (![] : Fin 0 → Fin S1024x32.rank)
  reducesTo_S1024x32_S_d0_1 : S1024x32.ReducesTo [0, 1] S_

variable [Facts]

def fn_part2 {F : FTy → Type} [FloatOps F] (main_arg7 : FVec F S1024x1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  main_v38

def fn_part1 {F : FTy → Type} [FloatOps F] (main_arg4 : FVec F S1024x1024 .f32) (main_arg5 : FVec F S1024x512 .f32) (main_arg6 : FVec F S1024x32 .f32) (main_arg7 : FVec F S1024x1024 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1024x32 .f32 := Host.absf main_arg6
  let main_cst_10 : FVec F S_ .f32 := constant S_ .f32 0x7F800000#32
  let main_v30 : FVec F S1024x32 .f32 := broadcastInDim S1024x32 ![] bcast_S_S1024x32 main_cst_10
  let main_v31 : IVec S1024x32 1 := cmpf .olt main_v29 main_v30
  let main_c_11 : IVec S_ 1 := constantI S_ 1 1#1
  let main_v32 : IVec S_ 1 := (fun x v => Host.reduce IntOp.andi x v reducesTo_S1024x32_S_d0_1 h_S_) main_v31 main_c_11
  let main_v33 : IVec S_ 1 := andi main_v28 main_v32
  fn_part2 (F := F) main_arg7 main_v33

def fn {F : FTy → Type} [FloatOps F] (main_arg0 : FVec F S2x256x1024 .f32) (main_arg1 : FVec F S1024x128 .f32) (main_arg2 : FVec F S128x1024 .f32) (main_arg3 : FVec F S128x1024 .f32) (main_arg4 : FVec F S1024x1024 .f32) (main_arg5 : FVec F S1024x512 .f32) (main_arg6 : FVec F S1024x32 .f32) (main_arg7 : FVec F S1024x1024 .f32) : IVec S_ 1 :=
  let main_v0 : FVec F S2x256x1024 .f32 := Host.absf main_arg0
  let main_cst : FVec F S_ .f32 := constant S_ .f32 0x7F800000#32
  let main_v1 : FVec F S2x256x1024 .f32 := broadcastInDim S2x256x1024 ![] bcast_S_S2x256x1024 main_cst
  let main_v2 : IVec S2x256x1024 1 := cmpf .olt main_v0 main_v1
  let main_c : IVec S_ 1 := constantI S_ 1 1#1
  let main_v3 : IVec S_ 1 := (fun x v => Host.reduce IntOp.andi x v reducesTo_S2x256x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S128x1024 .f32 := Host.absf main_arg3
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg4 main_arg5 main_arg6 main_arg7 main_v13 main_v16
-- ==== Kernel.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S512x64 : Shape := ⟨2, ![512, 64]⟩
abbrev S3 : Shape := ⟨1, ![3]⟩
abbrev S_ : Shape := ⟨0, ![]⟩
abbrev S1 : Shape := ⟨1, ![1]⟩
abbrev S512x1024 : Shape := ⟨2, ![512, 1024]⟩
abbrev S512x512 : Shape := ⟨2, ![512, 512]⟩
abbrev S512x32 : Shape := ⟨2, ![512, 32]⟩
abbrev S256x1024 : Shape := ⟨2, ![256, 1024]⟩
abbrev S256x32 : Shape := ⟨2, ![256, 32]⟩
abbrev S256x512 : Shape := ⟨2, ![256, 512]⟩
abbrev S4096x32 : Shape := ⟨2, ![4096, 32]⟩
abbrev S4096x256 : Shape := ⟨2, ![4096, 256]⟩
abbrev S256x64 : Shape := ⟨2, ![256, 64]⟩
abbrev S256x256 : Shape := ⟨2, ![256, 256]⟩
abbrev S256 : Shape := ⟨1, ![256]⟩
abbrev S256x1 : Shape := ⟨2, ![256, 1]⟩
abbrev S1x256x64 : Shape := ⟨3, ![1, 256, 64]⟩

abbrev nBuf : Space → Nat
  | .hbm => 9
  | .vmem => 16
  | .smem => 0
  | _ => 0

abbrev bufTy : (tb : Table) → Fin (tcTables nBuf tb) → BufTy
  | .hbm, ⟨0, _⟩ => ⟨S2x256x1024, .f32⟩
  | .hbm, ⟨1, _⟩ => ⟨S1024x64, .f32⟩
  | .hbm, ⟨2, _⟩ => ⟨S64x1024, .f32⟩
  | .hbm, ⟨3, _⟩ => ⟨S64x1024, .f32⟩
  | .hbm, ⟨4, _⟩ => ⟨S1024x1024, .f32⟩
  | .hbm, ⟨5, _⟩ => ⟨S1024x512, .f32⟩
  | .hbm, ⟨6, _⟩ => ⟨S1024x32, .f32⟩
  | .hbm, ⟨7, _⟩ => ⟨S1024x1024, .f32⟩
  | .hbm, ⟨8, _⟩ => ⟨S2x256x1024, .f32⟩
  | .local _ .vmem, ⟨0, _⟩ => ⟨S2x256x1024, .f32⟩
  | .local _ .vmem, ⟨1, _⟩ => ⟨S1024x64, .f32⟩
  | .local _ .vmem, ⟨2, _⟩ => ⟨S64x1024, .f32⟩
  | .local _ .vmem, ⟨3, _⟩ => ⟨S64x1024, .f32⟩
  | .local _ .vmem, ⟨4, _⟩ => ⟨S1024x1024, .f32⟩
  | .local _ .vmem, ⟨5, _⟩ => ⟨S1024x512, .f32⟩
  | .local _ .vmem, ⟨6, _⟩ => ⟨S1024x32, .f32⟩
  | .local _ .vmem, ⟨7, _⟩ => ⟨S1024x1024, .f32⟩
  | .local _ .vmem, ⟨8, _⟩ => ⟨S2x256x1024, .f32⟩
  | .local _ .vmem, ⟨9, _⟩ => ⟨S512x64, .bf16⟩
  | .local _ .vmem, ⟨10, _⟩ => ⟨S512x64, .bf16⟩
  | .local _ .vmem, ⟨11, _⟩ => ⟨S64x1024, .bf16⟩
  | .local _ .vmem, ⟨12, _⟩ => ⟨S64x1024, .bf16⟩
  | .local _ .vmem, ⟨13, _⟩ => ⟨S64x1024, .bf16⟩
  | .local _ .vmem, ⟨14, _⟩ => ⟨S64x1024, .bf16⟩
  | .local _ .vmem, ⟨15, _⟩ => ⟨S2x256x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_dev2 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v29 : BitVec 32 := Scalar.muli v2 c4_i32_18
  let v30 : BitVec 32 := Scalar.addi c0_i32_19 v29
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_20 : BitVec 32 := 2#32
  let v31 : BitVec 32 := Scalar.muli v5 c2_i32_20
  let v32 : BitVec 32 := Scalar.addi v30 v31
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_21 : BitVec 32 := 1#32
  let v33 : BitVec 32 := Scalar.muli v9 c1_i32_21
  let v34 : BitVec 32 := Scalar.addi v32 v33
  v34.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v39 : BitVec 32 := Scalar.muli v2 c4_i32_24
  let v40 : BitVec 32 := Scalar.addi c0_i32_25 v39
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v41 : BitVec 32 := Scalar.muli v5 c2_i32_26
  let v42 : BitVec 32 := Scalar.addi v40 v41
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_27 : BitVec 32 := 1#32
  let v43 : BitVec 32 := Scalar.muli v9 c1_i32_27
  let v44 : BitVec 32 := Scalar.addi v42 v43
  v44.toNat
def k0_dev4 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v61 : BitVec 32 := Scalar.muli v2 c4_i32_37
  let v62 : BitVec 32 := Scalar.addi c0_i32_38 v61
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v63 : BitVec 32 := Scalar.muli v5 c2_i32_39
  let v64 : BitVec 32 := Scalar.addi v62 v63
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_40 : BitVec 32 := 1#32
  let v65 : BitVec 32 := Scalar.muli v9 c1_i32_40
  let v66 : BitVec 32 := Scalar.addi v64 v65
  v66.toNat
abbrev stage0_0 : Fin 1 → Memref sig .tc .vmem S2x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
variable {F : FTy → Type} [FloatOps F] [Named F]
def κ : String → Option EReal := fun
  | "scale2" => some (((Real.sqrt 96)⁻¹ * (Real.log 2)⁻¹ : ℝ) : EReal)
  | _ => none
-- ==== ReferenceIdeal.lean ====
abbrev S2x256x1024 : Shape := ⟨3, ![2, 256, 1024]⟩
abbrev S1024x128 : Shape := ⟨2, ![1024, 128]⟩
abbrev S128x1024 : Shape := ⟨2, ![128, 1024]⟩
abbrev S1024x1024 : Shape := ⟨2, ![1024, 1024]⟩
abbrev S1024x512 : Shape := ⟨2, ![1024, 512]⟩
abbrev S1024x32 : Shape := ⟨2, ![1024, 32]⟩
abbrev S2x256x128 : Shape := ⟨3, ![2, 256, 128]⟩
abbrev S2x256x16x64 : Shape := ⟨4, ![2, 256, 16, 64]⟩
abbrev S2x256x512 : Shape := ⟨3, ![2, 256, 512]⟩
abbrev S2x256x16x32 : Shape := ⟨4, ![2, 256, 16, 32]⟩
abbrev S2x256x32 : Shape := ⟨3, ![2, 256, 32]⟩
abbrev S2x256x1x32 : Shape := ⟨4, ![2, 256, 1, 32]⟩
abbrev S_ : Shape := ⟨0, ![]⟩
abbrev S2x16x256x256 : Shape := ⟨4, ![2, 16, 256, 256]⟩
abbrev S2x16x256 : Shape := ⟨3, ![2, 16, 256]⟩
abbrev S2x16x256x1 : Shape := ⟨4, ![2, 16, 256, 1]⟩
abbrev S2x16x64x256 : Shape := ⟨4, ![2, 16, 64, 256]⟩

abbrev nBuf : Space → Nat
  | .hbm => 44
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024x128, .f32⟩
  | .hbm, ⟨2, _⟩ => ⟨S128x1024, .f32⟩
  | .hbm, ⟨3, _⟩ => ⟨S128x1024, .f32⟩
  | .hbm, ⟨4, _⟩ => ⟨S1024x1024, .f32⟩
  | .hbm, ⟨5, _⟩ => ⟨S1024x512, .f32⟩
  | .hbm, ⟨6, _⟩ => ⟨S1024x32, .f32⟩
  | .hbm, ⟨7, _⟩ => ⟨S1024x1024, .f32⟩
  | .hbm, ⟨8, _⟩ => ⟨S2x256x128, .f32⟩
  | .hbm, ⟨9, _⟩ => ⟨S2x256x1024, .f32⟩
  | .hbm, ⟨10, _⟩ => ⟨S2x256x16x64, .f32⟩
  | .hbm, ⟨11, _⟩ => ⟨S2x256x1024, .f32⟩
  | .hbm, ⟨12, _⟩ => ⟨S2x256x16x64, .f32⟩
  | .hbm, ⟨13, _⟩ => ⟨S2x256x1024, .f32⟩
  | .hbm, ⟨14, _⟩ => ⟨S2x256x16x64, .f32⟩
  | .hbm, ⟨15, _⟩ => ⟨S2x256x512, .f32⟩
  | .hbm, ⟨16, _⟩ => ⟨S2x256x16x32, .f32⟩
  | .hbm, ⟨17, _⟩ => ⟨S2x256x32, .f32⟩
  | .hbm, ⟨18, _⟩ => ⟨S2x256x1x32, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2x16x256x256, .f32⟩
  | .hbm, ⟨24, _⟩ => ⟨S2x256x16x32, .f32⟩
  | .hbm, ⟨25, _⟩ => ⟨S2x16x256x256, .f32⟩
  | .hbm, ⟨26, _⟩ => ⟨S2x16x256x256, .f32⟩
  | .hbm, ⟨27, _⟩ => ⟨S2x16x256x256, .f32⟩
  | .hbm, ⟨28, _⟩ => ⟨S2x16x256x256, .f32⟩
  | .hbm, ⟨29, _⟩ => ⟨S_, .f32⟩
  | .hbm, ⟨30, _⟩ => ⟨S2x16x256, .f32⟩
  | .hbm, ⟨31, _⟩ => ⟨S2x16x256x1, .f32⟩
  | .hbm, ⟨32, _⟩ => ⟨S2x16x256x256, .f32⟩
  | .hbm, ⟨33, _⟩ => ⟨S2x16x256x256, .f32⟩
  | .hbm, ⟨34, _⟩ => ⟨S2x16x256x256, .f32⟩
  | .hbm, ⟨35, _⟩ => ⟨S_, .f32⟩
  | .hbm, ⟨36, _⟩ => ⟨S2x16x256, .f32⟩
  | .hbm, ⟨37, _⟩ => ⟨S2x16x256x1, .f32⟩
  | .hbm, ⟨38, _⟩ => ⟨S2x16x256x256, .f32⟩
  | .hbm, ⟨39, _⟩ => ⟨S2x16x256x256, .f32⟩
  | .hbm, ⟨40, _⟩ => ⟨S2x16x64x256, .f32⟩
  | .hbm, ⟨41, _⟩ => ⟨S2x256x16x64, .f32⟩
  | .hbm, ⟨42, _⟩ => ⟨S2x256x1024, .f32⟩
  | .hbm, ⟨43, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Proof.Protocol.lean ====
/-
The exchange between the two devices of a pair.

The mesh is 2 x 2 x 2 with axes x, y, z, and the kernel only exchanges along z: device `c` and its mate `mate c`
(same x and y, the other z). Per device there are seven semaphores in the exchange:

* the barrier: the mate signals it once; with that one unit come the mate's three landing buffers, which from then
  on the device may write;
* three send semaphores, one per copy: each paid by the device's own copy, which gives back the share of the source
  buffer the copy read from;
* three receive semaphores, one per copy: each paid by the mate's copy, with the landing buffer, which by then holds
  what the mate sent.

The copies are, in order of issue: the bf16 key weights, the bf16 value weights, the bf16 latent activations. The
body reads the sources again while the copies are under way, so a copy takes one half share of its source and the
other half stays with the body.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.Mla

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- Two copies of the rounds algebra: the pipeline's and the exchange's. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## Pairs of devices -/

/-- The device with the other z coordinate: the lowest bit of the logical id flipped. -/
def mate (c : Dev nD) : Dev nD := ⟨4 * (c.val / 4) + 2 * ((c.val / 2) % 2) + 1 - c.val % 2, by have := c.isLt; revert this; generalize c.val = v; decide +revert⟩

theorem mate_mate (c : Dev nD) : mate (mate c) = c := by revert c; decide

def pairing : Dev nD ≃ Dev nD := ⟨mate, mate, mate_mate, mate_mate⟩

theorem dev1_mate (c : Dev nD) : (⟨k0_dev1 c, k0_dev1_lt c⟩ : Dev nD) = mate c := Fin.ext (k0_dev1_eq c)
theorem dev2_mate (c : Dev nD) : (⟨k0_dev2 c, k0_dev2_lt c⟩ : Dev nD) = mate c := Fin.ext (k0_dev2_eq c)
theorem dev3_mate (c : Dev nD) : (⟨k0_dev3 c, k0_dev3_lt c⟩ : Dev nD) = mate c := Fin.ext (k0_dev3_eq c)
theorem dev4_mate (c : Dev nD) : (⟨k0_dev4 c, k0_dev4_lt c⟩ : Dev nD) = mate c := Fin.ext (k0_dev4_eq c)

/-! ## The seven semaphores -/

/-- The barrier, the three send semaphores, the three receive semaphores. -/
abbrev Slot : Type := Unit ⊕ (Fin 3 ⊕ Fin 3)
abbrev bar : Slot := .inl ()
abbrev snd (i : Fin 3) : Slot := .inr (.inl i)
abbrev rcv (i : Fin 3) : Slot := .inr (.inr i)

/-- The send and receive semaphores by number, as the kernel's two arrays of three hold them. -/
abbrev sndSem (i : Fin 3) : DmaSem sig := ⟨9 + i.val, by revert i; decide⟩
abbrev rcvSem (i : Fin 3) : DmaSem sig := ⟨12 + i.val, by revert i; decide⟩

def semOf : Slot → SemLoc sig
  | .inl _ => .reg (SemArray.scalar (sig.barrier 0 rfl) : Sems sig S_).sem
  | .inr (.inl i) => .dma (sndSem i)
  | .inr (.inr i) => .dma (rcvSem i)

def slotOf : SemLoc sig → Option Slot
  | .reg s => if s = (SemArray.scalar (sig.barrier 0 rfl) : Sems sig S_).sem then some bar else none
  | .dma q => if h : 9 ≤ q.val ∧ q.val < 12 then some (snd ⟨q.val - 9, by omega⟩)
      else if h : 12 ≤ q.val ∧ q.val < 15 then some (rcv ⟨q.val - 12, by omega⟩) else none

theorem slotOf_semOf : ∀ k : Slot, slotOf (semOf k) = some k := by decide

theorem semOf_inj : Function.Injective semOf := fun a b h => by
  have := congrArg slotOf h
  rw [slotOf_semOf, slotOf_semOf] at this
  exact Option.some.inj this

/-- A device's cell of a slot. -/
abbrev cell (c : Dev nD) (k : Slot) : GSem nD τ sig := ((c : Thread nD τ), semOf k)

theorem cell_inj : Function.Injective (fun p : Dev nD × Slot => cell p.1 p.2) := by
  rintro ⟨c, k⟩ ⟨d, l⟩ h
  have h1 : c = d := congrArg (fun g : GSem nD τ sig => g.1.1) h
  have h2 : k = l := semOf_inj (congrArg Prod.snd h)
  rw [h1, h2]

theorem cell_eq_iff {c d : Dev nD} {k l : Slot} : cell c k = cell d l ↔ c = d ∧ k = l :=
  ⟨fun h => Prod.ext_iff.mp (@cell_inj (c, k) (d, l) h), fun h => by rw [h.1, h.2]⟩

/-! ## Sources and landing buffers -/

def srcRef : Fin 3 → Ref sig .tc | 0 => cc0_scratch2 | 1 => cc0_scratch3 | 2 => cc0_scratch0
def dstRef : Fin 3 → Ref sig .tc | 0 => cc0_scratch4 | 1 => cc0_scratch5 | 2 => cc0_scratch1

/-- What one copy pays: the credit of its landing buffer. -/
def copyAmt (i : Fin 3) : ℕ := (Memref.whole (dstRef i)).view.dmaCredit

theorem copyAmt_pos (i : Fin 3) : 0 < copyAmt i := by
  fin_cases i <;> exact View.dmaCredit_pos _ (by decide)

def amt : Slot → ℕ
  | .inl _ => 1
  | .inr (.inl i) => copyAmt i
  | .inr (.inr i) => copyAmt i

theorem amt_pos (k : Slot) : 0 < amt k := by
  rcases k with _ | i | i
  · exact Nat.one_pos
  · exact copyAmt_pos i
  · exact copyAmt_pos i

/-! ## Contents -/

variable (m : (ℓ : Loc nD τ sig) → Buf (Elt F) ℓ) (ρ : Dev nD → PrngReg)

/-- The memory at launch: any contents, every counter zero. -/
def start₀ : MemSt nD τ sig (Elt F) := ⟨m, fun _ => 0, ρ⟩

/-- The operands as the kernel finds them staged on device `c`. -/
def opX (c : Dev nD) : Vec F S2x256x1024 .f32 := (win0_0.blk (0 : Fin 1)).view.read (Elt F) (m ((c : Thread nD τ).loc main_arg0))
def opDkv (c : Dev nD) : Vec F S1024x64 .f32 := (win0_1.blk (0 : Fin 1)).view.read (Elt F) (m ((c : Thread nD τ).loc main_arg1))
def opUk (c : Dev nD) : Vec F S64x1024 .f32 := (win0_2.blk (0 : Fin 1)).view.read (Elt F) (m ((c : Thread nD τ).loc main_arg2))
def opUv (c : Dev nD) : Vec F S64x1024 .f32 := (win0_3.blk (0 : Fin 1)).view.read (Elt F) (m ((c : Thread nD τ).loc main_arg3))
def opQ (c : Dev nD) : Vec F S1024x1024 .f32 := (win0_4.blk (0 : Fin 1)).view.read (Elt F) (m ((c : Thread nD τ).loc main_arg4))
def opQr (c : Dev nD) : Vec F S1024x512 .f32 := (win0_5.blk (0 : Fin 1)).view.read (Elt F) (m ((c : Thread nD τ).loc main_arg5))
def opKr (c : Dev nD) : Vec F S1024x32 .f32 := (win0_6.blk (0 : Fin 1)).view.read (Elt F) (m ((c : Thread nD τ).loc main_arg6))
def opO (c : Dev nD) : Vec F S1024x1024 .f32 := (win0_7.blk (0 : Fin 1)).view.read (Elt F) (m ((c : Thread nD τ).loc main_arg7))

/-- The device's own half of the key weights, of the value weights and of the latent activations, in bf16. -/
def keyHalf (c : Dev nD) : Vec F S64x1024 .bf16 := k0_pay2 (opUk m c)
def valHalf (c : Dev nD) : Vec F S64x1024 .bf16 := k0_pay3 (opUv m c)
def latHalf (c : Dev nD) : Vec F S512x64 .bf16 := k0_pay5 (opX m c) (opDkv m c)

/-- What copy `i` of device `c` sends, -/
def sent (c : Dev nD) : (i : Fin 3) → Buf (Elt F) ((c : Thread nD τ).loc (srcRef i))
  | 0 => keyHalf m c
  | 1 => valHalf m c
  | 2 => latHalf m c
/-- and what its landing buffers receive. -/
def got (c : Dev nD) : (i : Fin 3) → Buf (Elt F) ((c : Thread nD τ).loc (dstRef i))
  | 0 => keyHalf m (mate c)
  | 1 => valHalf m (mate c)
  | 2 => latHalf m (mate c)

/-! ## The schedule -/

/-- What comes with a unit of each slot. -/
def pay (c : Dev nD) : Slot → sProp 𝕄
  | .inl _ => bigSep Finset.univ fun i : Fin 3 => iprop(∃ f : Buf (Elt F) ((mate c : Thread nD τ).loc (dstRef i)), ((mate c : Thread nD τ).loc (dstRef i)) ↦{fullShare} f)
  | .inr (.inl i) => ((c : Thread nD τ).loc (srcRef i)) ↦{fullShare.left} sent m c i
  | .inr (.inr i) => ((c : Thread nD τ).loc (dstRef i)) ↦{fullShare} got m c i

instance pay_storable (c : Dev nD) (k : Slot) : BI.Storable (upEmb : UEmb _ 𝕄) (pay (F := F) m c k) := by
  rcases k with _ | i | i <;> (unfold pay; infer_instance)

/-- One round: every cell of the exchange is paid once. -/
def sched : Rounds.Schedule (GSem nD τ sig) Unit 𝕄 where
  duties g r := if r = 0 ∧ g.1.2 = .tc ∧ (slotOf g.2).isSome then {()} else ∅
  unitless _ := False
  amount g _ _ := (slotOf g.2).elim 1 amt
  payload g _ _ := (slotOf g.2).elim iprop(emp) (pay m g.1.1)
  amount_pos g _ _ _ := by
    cases slotOf g.2 with
    | none => exact Nat.one_pos
    | some k => exact amt_pos k

instance sched_storable (g : GSem nD τ sig) (r : ℕ) (d : Unit) : BI.Storable (upEmb : UEmb _ 𝕄) ((sched (F := F) m).payload g r d) := by
  show BI.Storable upEmb ((slotOf g.2).elim iprop(emp) (pay m g.1.1))
  cases slotOf g.2 with
  | none => show BI.Storable upEmb iprop(emp); infer_instance
  | some k => exact pay_storable m g.1.1 k

section Facts
variable (c : Dev nD) (k : Slot)

theorem sched_duties : (sched (F := F) m).duties (cell c k) 0 = {()} := by
  show (if _ then _ else _) = _
  rw [if_pos ⟨rfl, rfl, by show (slotOf (semOf k)).isSome; rw [slotOf_semOf]; rfl⟩]

theorem sched_later (g : GSem nD τ sig) : ∀ r, 1 ≤ r → (sched (F := F) m).duties g r = ∅ :=
  fun r hr => if_neg fun h => by omega

theorem sched_amount : (sched (F := F) m).amount (cell c k) 0 () = amt k := by
  show (slotOf (semOf k)).elim 1 amt = _
  rw [slotOf_semOf]; rfl

theorem sched_expect : (sched (F := F) m).expect (cell c k) 0 = amt k := by
  unfold Schedule.expect Schedule.amountOf; rw [sched_duties, Finset.sum_singleton, sched_amount]

theorem sched_payload : (sched (F := F) m).payload (cell c k) 0 () = pay m c k := by
  show (slotOf (semOf k)).elim iprop(emp) (pay m c) = _
  rw [slotOf_semOf]; rfl

theorem sched_rest : bigSep ((sched (F := F) m).duties (cell c k) 0 \ ∅) (fun u => (sched (F := F) m).payload (cell c k) 0 u) = pay m c k := by
  rw [Finset.sdiff_empty, sched_duties, bigSep_singleton]; exact sched_payload m c k

theorem mem_duties : () ∈ (sched (F := F) m).duties (cell c k) 0 := by rw [sched_duties]; exact Finset.mem_singleton_self _

end Facts

/-! ## What a device owes, and the levels -/

/-- The units device `c` owes its mate's cells of the slots listed. -/
def owed (c : Dev nD) : List Slot → CellTallies nD τ sig Unit
  | [] => 0
  | k :: ks => owed c ks + tallyAt (cell (mate c) k) () (amt k)

/-- At launch: the barrier's unit and the three copies. -/
abbrev debts : List Slot := [bar, rcv 0, rcv 1, rcv 2]

theorem owed_pos {c : Dev nD} {g : GSem nD τ sig} {u : Unit} : ∀ ks : List Slot, 0 < owed c ks g u → ∃ k ∈ ks, g = cell (mate c) k
  | [], h => absurd h (Nat.lt_irrefl 0)
  | k :: ks, h => by
    unfold owed at h
    rw [Pi.add_apply, Finsupp.add_apply, tallyAt_apply] at h
    by_cases hg : g = cell (mate c) k ∧ u = ()
    · exact ⟨k, List.mem_cons_self, hg.1⟩
    · rw [if_neg hg, Nat.add_zero] at h
      obtain ⟨l, hl, e⟩ := owed_pos ks h
      exact ⟨l, List.mem_cons_of_mem _ hl, e⟩

theorem owed_at (c d : Dev nD) (k : Slot) : ∀ ks : List Slot, owed d ks (cell c k) () = if d = mate c then ks.countP (fun l => decide (l = k)) * amt k else 0
  | [] => by
    show (0 : ℕ) = _
    split <;> simp
  | l :: ks => by
    unfold owed
    rw [Pi.add_apply, Finsupp.add_apply, tallyAt_apply, owed_at c d k ks]
    by_cases hd : d = mate c
    · subst hd
      rw [if_pos rfl, if_pos rfl, mate_mate, List.countP_cons, Nat.add_mul]
      by_cases hl : l = k
      · subst hl; rw [if_pos ⟨rfl, rfl⟩, if_pos (decide_eq_true rfl), Nat.one_mul]
      · rw [if_neg fun h => hl (cell_eq_iff.mp h.1).2.symm, if_neg (by simpa using hl), Nat.zero_mul]
    · rw [if_neg hd, if_neg hd, if_neg]
      rintro ⟨h, -⟩
      exact hd (by rw [(cell_eq_iff.mp h).1, mate_mate])

def L (g : GSem nD τ sig) : Finset Unit := if g.1.2 = .tc then {()} else ∅
/-- The barriers below the receive cells, everything else below both. -/
def lvS (s : SemLoc sig) : ℕ := match slotOf s with | some (.inl _) => 1 | some (.inr (.inr _)) => 2 | _ => 0
def lv (g : GSem nD τ sig) (_ : Unit) : ℕ := lvS g.2

theorem L_of_ne (g : GSem nD τ sig) (h : g.1.2 ≠ .tc) : L g = ∅ := if_neg h
theorem mem_L (c : Dev nD) (s : SemLoc sig) : () ∈ L ((c : Thread nD τ), s) := by
  show () ∈ (if _ then _ else _); rw [if_pos rfl]; exact Finset.mem_singleton_self _

/-- A device may wait on a semaphore while everything it owes lies at a higher level. -/
theorem mayWait (c : Dev nD) (s : SemLoc sig) (ks : List Slot) (h : ∀ k ∈ ks, lvS s < lvS (semOf k)) :
    (levAts L lv : sProp 𝕄) ⊢ MayWait (c : Thread nD τ) s () (owed c ks) :=
  MayOwe.of_cut (L := L) (lev := lv) (lvS s)
    (fun p hp => by rw [Finset.mem_singleton.mp hp]; exact mem_L c s)
    (fun g u hg => by obtain ⟨k, -, rfl⟩ := owed_pos ks hg; exact mem_L (mate c) _)
    (fun p hp => by rw [Finset.mem_singleton.mp hp]; exact le_refl _)
    (fun g u hg => by obtain ⟨k, hk, rfl⟩ := owed_pos ks hg; exact h k hk)

/-! ## What a device's body starts with -/

/-- Which cell device `c` pays for each kind of slot: its mate's barrier and receive cells, its own send cells. -/
def payer (p : Dev nD × Slot) : Dev nD × Slot := match p with
  | (c, .inr (.inl i)) => (c, snd i)
  | (c, k) => (mate c, k)

theorem payer_payer (p : Dev nD × Slot) : payer (payer p) = p := by
  rcases p with ⟨c, _ | i | i⟩ <;> simp [payer, mate_mate]

def payers : Dev nD × Slot ≃ Dev nD × Slot := ⟨payer, payer, payer_payer, payer_payer⟩

/-- The cells' invariants and that each has reached its first round, for all devices at once. -/
def records (K : Dev nD × Slot → ℕ) : sProp 𝕄 :=
  iprop((bigSep Finset.univ fun p : Dev nD × Slot => cellInv ER (sched m) (K p) (cell p.1 p.2))
    ∗ bigSep Finset.univ fun p : Dev nD × Slot => reached ER (cell p.1 p.2) 0)

instance records_persistent (K : Dev nD × Slot → ℕ) : BI.Persistent (records m K) := by unfold records; infer_instance

theorem records_inv (K : Dev nD × Slot → ℕ) (c : Dev nD) (k : Slot) : records m K ⊢ cellInv ER (sched m) (K (c, k)) (cell c k) :=
  (Laws.sep_and.trans Laws.and_elim_l).trans (bigSep_elim (Φ := fun p : Dev nD × Slot => cellInv ER (sched m) (K p) (cell p.1 p.2)) (Finset.mem_univ (c, k)))

theorem records_reached (K : Dev nD × Slot → ℕ) (c : Dev nD) (k : Slot) : records m K ⊢ reached ER (cell c k) 0 :=
  (Laws.sep_and.trans Laws.and_elim_r).trans (bigSep_elim (Φ := fun p : Dev nD × Slot => (reached ER (cell p.1 p.2) 0 : sProp 𝕄)) (Finset.mem_univ (c, k)))

/-- The device's positions in its seven cells and the tokens of the seven duties it pays. -/
def turns (c : Dev nD) : sProp 𝕄 :=
  iprop((bigSep Finset.univ fun k : Slot => atPos ER (cell c k) 0 ∅ 0)
    ∗ bigSep Finset.univ fun k : Slot => dutyTok ER (cell (payer (c, k)).1 (payer (c, k)).2) 0 ())

def ghost (c : Dev nD) : sProp 𝕄 := iprop(∃ K, records m K ∗ turns c)

/-- The credit tokens of the cells others pay. -/
def credits (c : Dev nD) : sProp 𝕄 :=
  iprop(cred (tallyAt (cell c bar) () (amt bar)) ∗ cred (tallyAt (cell c (rcv 0)) () (amt (rcv 0)))
    ∗ cred (tallyAt (cell c (rcv 1)) () (amt (rcv 1))) ∗ cred (tallyAt (cell c (rcv 2)) () (amt (rcv 2))))

def start (c : Dev nD) : sProp 𝕄 := iprop(ghost m c ∗ credits c ∗ levAts L lv)

omit [FloatOps F] [Named F] in
theorem bigSep_slot (Φ : Slot → sProp 𝕄) : bigSep Finset.univ Φ
    = iprop(Φ bar ∗ Φ (snd 0) ∗ Φ (snd 1) ∗ Φ (snd 2) ∗ Φ (rcv 0) ∗ Φ (rcv 1) ∗ Φ (rcv 2)) :=
  bigSep_univ_eq_bigSepL [bar, snd 0, snd 1, snd 2, rcv 0, rcv 1, rcv 2] (by decide) (by decide) Φ

omit [FloatOps F] [Named F] in
theorem bigSep_three (Φ : Fin 3 → sProp 𝕄) : bigSep Finset.univ Φ = iprop(Φ 0 ∗ Φ 1 ∗ Φ 2) :=
  bigSep_univ_eq_bigSepL [0, 1, 2] (by decide) (by decide) Φ

end Cert.Mla

end
-- ==== Proof.Heads.lean ====
/-
What the attention loop stores, named once for every batch `b` and head `h`.

The kernel unrolls two batches of sixteen heads; each store's value is `headPay h` of the batch's rows of the keys,
the values and the queries and of its stacked position scores. `filled n` is the output scratch after the first `n` stores.
-/
module

public import proofs.«01_k».proof.Proof.Protocol

@[expose] public section

set_option maxRecDepth 16384

noncomputable section

namespace Cert.Mla

open Cert.KernelIdeal Cert.KernelIdeal.Gen
open Idealize.ShloMosaic

variable {F : FTy → Type} [FloatOps F] [Named F]

/-! ## Slices -/

theorem slices_batch : ∀ b : Fin 2, S512x1024.Slices ![256 * b.val, 0] S256x1024 := by decide
theorem slices_batch_qr : ∀ b : Fin 2, S512x512.Slices ![256 * b.val, 0] S256x512 := by decide
theorem slices_batch_kr : ∀ b : Fin 2, S512x32.Slices ![256 * b.val, 0] S256x32 := by decide
theorem slices_head : ∀ h : Fin 16, S256x1024.Slices ![0, 64 * h.val] S256x64 := by decide
theorem slices_rope : ∀ h : Fin 16, S256x512.Slices ![0, 32 * h.val] S256x32 := by decide
theorem slices_scores : ∀ h : Fin 16, S4096x256.Slices ![256 * h.val, 0] S256x256 := by decide

/-- The rows of batch `b`. -/
def batch (b : Fin 2) (X : FVec F S512x1024 .bf16) : FVec F S256x1024 .bf16 :=
  extractStridedSlice S256x1024 ![256 * b.val, 0] X (slices_batch b)
/-- The columns of head `h`. -/
def head (h : Fin 16) (X : FVec F S256x1024 .bf16) : FVec F S256x64 .bf16 :=
  extractStridedSlice S256x64 ![0, 64 * h.val] X (slices_head h)

/-- The sixteen heads' position queries of one batch, stacked. -/
def stack (X : FVec F S256x512 .bf16) : FVec F S4096x32 .bf16 :=
  concatenate S4096x32 0 (List.ofFn fun h : Fin 16 => (⟨S256x32, extractStridedSlice S256x32 ![0, 32 * h.val] X (slices_rope h)⟩ : (s : Shape) × (s.Idx → F .bf16)))
    concatenates_S256x32_S256x32_S256x32_S256x32_S256x32_S256x32_S256x32_S256x32_S256x32_S256x32_S256x32_S256x32_S256x32_S256x32_S256x32_S256x32_S4096x32_d0

/-- The position scores of batch `b`, all heads stacked. -/
def rope (b : Fin 2) (QR : FVec F S512x512 .bf16) (KR : FVec F S512x32 .bf16) : FVec F S4096x256 .f32 :=
  matmul dot_S4096x32_S256x32_S4096x256_1_1_0_0_n_n none (stack (extractStridedSlice S256x512 ![256 * b.val, 0] QR (slices_batch_qr b)))
    (extractStridedSlice S256x32 ![256 * b.val, 0] KR (slices_batch_kr b)) (constant S4096x256 .f32 0x00000000#32)

/-! ## One head -/

/-- The unnormalised weights of one head. -/
def weights (h : Fin 16) (K Q : FVec F S256x1024 .bf16) (SR : FVec F S4096x256 .f32) : FVec F S256x256 .f32 :=
  exp2 (addf (matmul dot_S256x64_S256x64_S256x256_1_1_0_0_n_n none (head h Q) (head h K) (constant S256x256 .f32 0x00000000#32))
    (extractStridedSlice S256x256 ![256 * h.val, 0] SR (slices_scores h)))

/-- One over each row's sum. -/
def recip (p : FVec F S256x256 .f32) : FVec F S256x1 .f32 :=
  divf (broadcast S256x1 (Scalar.ofBits .f32 0x3F800000#32)) (shapeCast S256x1 (multiReduction .add [1] S256 p 0x00000000#32 reduces_S256x256_S256 (.inl rfl) rfl) shapeCasts_S256_S256x1)

/-- The block one head stores. -/
def headPay (h : Fin 16) (K V Q : FVec F S256x1024 .bf16) (SR : FVec F S4096x256 .f32) : FVec F S1x256x64 .bf16 :=
  shapeCast S1x256x64 (truncf .bf16 (mulf
    (matmul dot_S256x256_S256x64_S256x64_1_0_0_1_n_n none (truncf .bf16 (weights h K Q SR) bitsLt_bf16_f32) (head h V) (constant S256x64 .f32 0x00000000#32))
    (broadcastTo S256x64 (recip (weights h K Q SR)) broadcasts_S256x1_S256x64)) bitsLt_bf16_f32) shapeCasts_S256x64_S1x256x64

/-- The block of batch `b`, head `h`, from the five projections. -/
def headOut (Q : FVec F S512x1024 .bf16) (QR : FVec F S512x512 .bf16) (KR : FVec F S512x32 .bf16) (K V : FVec F S512x1024 .bf16)
    (b : Fin 2) (h : Fin 16) : FVec F S1x256x64 .bf16 :=
  headPay h (batch b K) (batch b V) (batch b Q) (rope b QR KR)

/-! ## The output scratch -/

theorem inb_head : ∀ (b : Fin 2) (h : Fin 16) (a : Fin 3), ![b.val, 0, 64 * h.val] a + S1x256x64.size a ≤ S2x256x1024.size a := by decide

/-- The scratch with one head's block stored. -/
def put (b : Fin 2) (h : Fin 16) (P : FVec F S1x256x64 .bf16) (f : (cc0_scratch6 : Ref sig .tc).ty.Contents (Elt F)) : (cc0_scratch6 : Ref sig .tc).ty.Contents (Elt F) :=
  ((Memref.whole cc0_scratch6 : Memref sig .tc .vmem S2x256x1024 .bf16).access (Rect.unit (s := S2x256x1024) ![b.val, 0, 64 * h.val] S1x256x64.size (inb_head b h)) : View sig .tc _ _ _).write (Elt F) f P Finset.univ

def batchOf (n : ℕ) : Fin 2 := ⟨n / 16 % 2, Nat.mod_lt _ (by decide)⟩
def headOf (n : ℕ) : Fin 16 := ⟨n % 16, Nat.mod_lt _ (by decide)⟩

/-- The scratch after the first `n` heads, `P b h` the block of batch `b`, head `h`. -/
def filled (P : Fin 2 → Fin 16 → FVec F S1x256x64 .bf16) (f : (cc0_scratch6 : Ref sig .tc).ty.Contents (Elt F)) : ℕ → (cc0_scratch6 : Ref sig .tc).ty.Contents (Elt F)
  | 0 => f
  | n + 1 => put (batchOf n) (headOf n) (P (batchOf n) (headOf n)) (filled P f n)

/-- The scratch once all heads are stored: every element from its head's block. -/
def allHeads (P : Fin 2 → Fin 16 → FVec F S1x256x64 .bf16) : (cc0_scratch6 : Ref sig .tc).ty.Contents (Elt F) :=
  fun j => P (j 0) ⟨(j 2).val / 64, Nat.div_lt_of_lt_mul (j 2).isLt⟩ (fun | 0 => ⟨0, Nat.one_pos⟩ | 1 => j 1 | 2 => ⟨(j 2).val % 64, Nat.mod_lt _ (by decide)⟩)

/-- The place of an element in its head's block. -/
abbrev inHead (j : S2x256x1024.Idx) : S1x256x64.Idx :=
  fun | 0 => ⟨0, Nat.one_pos⟩ | 1 => j 1 | 2 => ⟨(j 2).val % 64, Nat.mod_lt _ (by decide)⟩

/-- The rectangle of batch `b`, head `h`. -/
abbrev headRect (b : Fin 2) (h : Fin 16) : Rect S2x256x1024 := Rect.unit (s := S2x256x1024) ![b.val, 0, 64 * h.val] S1x256x64.size (inb_head b h)

theorem put_eq (b : Fin 2) (h : Fin 16) (P : FVec F S1x256x64 .bf16) (f : (cc0_scratch6 : Ref sig .tc).ty.Contents (Elt F)) :
    put b h P f = (View.whole cc0_scratch6).writes (Elt F) f [⟨headRect b h, P⟩] := rfl

theorem emb_inHead (b : Fin 2) (h : Fin 16) (j : S2x256x1024.Idx) (h0 : (j 0).val = b.val) (h2 : (j 2).val / 64 = h.val) : (headRect b h).emb (inHead j) = j := by
  refine Rect.emb_eq_of_coords _ _ _ fun a => ?_
  match a with
  | 0 => exact h0.trans (by simp)
  | 1 => exact (by simp)
  | 2 =>
    have : (j 2).val = 64 * h.val + 1 * ((j 2).val % 64) := by omega
    exact this

theorem put_hit (b : Fin 2) (h : Fin 16) (P : FVec F S1x256x64 .bf16) (f : (cc0_scratch6 : Ref sig .tc).ty.Contents (Elt F)) (j : S2x256x1024.Idx)
    (h0 : (j 0).val = b.val) (h2 : (j 2).val / 64 = h.val) : put b h P f j = P (inHead j) := by
  have := View.read_writes_cons_hit (View.whole cc0_scratch6) f (headRect b h) P [] (inHead j) j (emb_inHead b h j h0 h2)
  rwa [View.read_whole, ← put_eq] at this

theorem put_miss (b : Fin 2) (h : Fin 16) (P : FVec F S1x256x64 .bf16) (f : (cc0_scratch6 : Ref sig .tc).ty.Contents (Elt F)) (j : S2x256x1024.Idx)
    (hj : (j 0).val ≠ b.val ∨ (j 2).val / 64 ≠ h.val) : put b h P f j = f j := by
  have hn : j ∉ (headRect b h).set := by
    rcases hj with h0 | h2
    · exact Rect.not_mem_set_of_axis _ j 0 b.val 1 rfl rfl rfl (by omega)
    · exact Rect.not_mem_set_of_axis _ j 2 (64 * h.val) 64 rfl rfl rfl (by omega)
  have := View.read_writes_cons_miss (View.whole cc0_scratch6) f ⟨headRect b h, P⟩ [] j hn
  rwa [View.read_whole, ← put_eq, View.writes_nil, View.read_whole] at this

theorem filled_at (P : Fin 2 → Fin 16 → FVec F S1x256x64 .bf16) (f : (cc0_scratch6 : Ref sig .tc).ty.Contents (Elt F)) (j : S2x256x1024.Idx) :
    ∀ n, n ≤ 32 → 16 * (j 0).val + (j 2).val / 64 < n → filled P f n j = allHeads P j := by
  have h0 : (j 0).val < 2 := (j 0).isLt
  have h2 : (j 2).val < 1024 := (j 2).isLt
  intro n
  induction n with
  | zero => intro _ h; omega
  | succ n ih =>
    intro hn hlt
    show put (batchOf n) (headOf n) (P (batchOf n) (headOf n)) (filled P f n) j = _
    have hb : (batchOf n).val = n / 16 % 2 := rfl
    have hh : (headOf n).val = n % 16 := rfl
    by_cases he : 16 * (j 0).val + (j 2).val / 64 = n
    · rw [put_hit _ _ _ _ _ (by omega) (by omega)]
      have e0 : batchOf n = j 0 := Fin.ext (show n / 16 % 2 = (j 0).val by omega)
      have e2 : headOf n = ⟨(j 2).val / 64, Nat.div_lt_of_lt_mul (j 2).isLt⟩ := Fin.ext (show n % 16 = (j 2).val / 64 by omega)
      rw [e0, e2]; rfl
    · rw [put_miss _ _ _ _ _ (by omega)]
      exact ih (by omega) (by omega)

/-- After the thirty-two stores nothing of the scratch's old contents is left. -/
theorem filled_all (P : Fin 2 → Fin 16 → FVec F S1x256x64 .bf16) (f : (cc0_scratch6 : Ref sig .tc).ty.Contents (Elt F)) : filled P f 32 = allHeads P := by
  funext j
  have h0 : (j 0 : Fin 2).val < 2 := (j 0 : Fin 2).isLt
  have h2 : (j 2 : Fin 1024).val < 1024 := (j 2 : Fin 1024).isLt
  exact filled_at P f j 32 le_rfl (show 16 * (j 0 : Fin 2).val + (j 2 : Fin 1024).val / 64 < 32 by omega)

end Cert.Mla

end
-- ==== Proof.Rules.lean ====
/-
One rule per kind of step the body takes: a load and a store of a whole buffer, the store of one head's block, the
signal to the mate's barrier, a copy to the mate, and a wait on one of the device's own semaphores.
-/
module

public import proofs.«01_k».proof.Proof.Protocol
public import proofs.«01_k».proof.Proof.Heads

@[expose] public section

set_option maxRecDepth 16384

noncomputable section

namespace Cert.Mla

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

variable (m : (ℓ : Loc nD τ sig) → Buf (Elt F) ℓ) (K : Dev nD × Slot → ℕ) (c : Dev nD)

/-- A whole buffer of device `c`, at some share of it. -/
abbrev holds (c : Dev nD) (b : Ref sig .tc) (q : PosShare TreeShare) (f : b.ty.Contents (Elt F)) : sProp 𝕄 := ((c : Thread nD τ).loc b) ↦{q} f

/-- Device `c` owes exactly the units of the slots listed, whatever it has waited for. -/
def debt (c : Dev nD) (ks : List Slot) : sProp 𝕄 := iprop(∃ W, owes (c : Thread nD τ) (owed c ks) W)

/-! ## Whole buffers -/

theorem wp_read {α : Type} {Q : α → sProp 𝕄} {s : Shape} {e : EltTy} (b : Memref sig .tc .vmem s e) {r : LoadRect s} {hl : b.view.LoadsAt r}
    {k : (r.shape.Idx → Elt F e) → Prog (TpuEff nD τ sig (Elt F) Λ₀ .tc) α} {q : PosShare TreeShare} {f : Buf (Elt F) (b.view.loc (c : Thread nD τ))}
    (v : r.shape.Idx → Elt F e) (hv : b.view.readAt (Elt F) r f = v) :
    (b.view.loc (c : Thread nD τ) ↦{q} f : sProp 𝕄)
      ⊢ iprop(((b.view.loc (c : Thread nD τ) ↦{q} f) -∗ wp frame (wpE (defs₀ (F := F)) 𝒱₀ (c : Thread nD τ) none) Set.univ (k v) Q)
        -∗ wp frame (wpE (defs₀ (F := F)) 𝒱₀ (c : Thread nD τ) none) Set.univ (.op (.load b r hl) k) Q) := by
  subst hv
  exact wp_load (defs := defs₀ (F := F)) 𝒱₀ (c : Thread nD τ) none Set.univ (m := b) (Finset.subset_univ _)

theorem wp_overwrite {α : Type} {Q : α → sProp 𝕄} {s : Shape} {e : EltTy} (b : Memref sig .tc .vmem s e) {r : Rect s} {w : r.shape.Idx → Elt F e}
    {hx : (b.access r).Stores Finset.univ} {hm}
    {k : PUnit → Prog (TpuEff nD τ sig (Elt F) Λ₀ .tc) α} {f : Buf (Elt F) (b.view.loc (c : Thread nD τ))}
    (v : Buf (Elt F) (b.view.loc (c : Thread nD τ))) (hv : (b.access r : View sig .tc _ _ _).write (Elt F) f w Finset.univ = v) :
    (b.view.loc (c : Thread nD τ) ↦{fullShare} f : sProp 𝕄)
      ⊢ iprop(((b.view.loc (c : Thread nD τ) ↦{fullShare} v) -∗ wp frame (wpE (defs₀ (F := F)) 𝒱₀ (c : Thread nD τ) none) Set.univ (k ⟨⟩) Q)
        -∗ wp frame (wpE (defs₀ (F := F)) 𝒱₀ (c : Thread nD τ) none) Set.univ (.op (.store b r w Finset.univ hx hm) k) Q) := by
  subst hv
  exact wp_store (defs := defs₀ (F := F)) 𝒱₀ (c : Thread nD τ) none Set.univ (m := b) (r := r) (Mk := Finset.univ) (Finset.subset_univ _)

/-! ## One head's block -/

/-- Storing block `n` of the attention loop. -/
theorem wp_block {α : Type} {Q : α → sProp 𝕄} (P : Fin 2 → Fin 16 → FVec F S1x256x64 .bf16) (f : (cc0_scratch6 : Ref sig .tc).ty.Contents (Elt F)) (n : ℕ)
    {off : Fin 3 → ℕ} (ho : off = ![(batchOf n).val, 0, 64 * (headOf n).val]) {inb : ∀ a, off a + S1x256x64.size a ≤ S2x256x1024.size a}
    {w : FVec F S1x256x64 .bf16} (hw : w = P (batchOf n) (headOf n))
    {hx : ((Memref.whole cc0_scratch6 : Memref sig .tc .vmem S2x256x1024 .bf16).access (Rect.unit (s := S2x256x1024) off S1x256x64.size inb)).Stores Finset.univ} {hm}
    {k : PUnit → Prog (TpuEff nD τ sig (Elt F) Λ₀ .tc) α} :
    holds c cc0_scratch6 fullShare (filled P f n)
      ⊢ iprop((holds c cc0_scratch6 fullShare (filled P f (n + 1)) -∗ wp frame (wpE (defs₀ (F := F)) 𝒱₀ (c : Thread nD τ) none) Set.univ (k ⟨⟩) Q)
        -∗ wp frame (wpE (defs₀ (F := F)) 𝒱₀ (c : Thread nD τ) none) Set.univ
          (.op (.store (Memref.whole cc0_scratch6 : Memref sig .tc .vmem S2x256x1024 .bf16) (Rect.unit (s := S2x256x1024) off S1x256x64.size inb) w Finset.univ hx hm) k) Q) := by
  subst ho hw
  exact wp_overwrite c (Memref.whole cc0_scratch6 : Memref sig .tc .vmem S2x256x1024 .bf16) (filled P f (n + 1)) rfl

/-- Storing block `n` after the load whose value nothing reads. -/
theorem wp_head {α : Type} {Q : α → sProp 𝕄} (P : Fin 2 → Fin 16 → FVec F S1x256x64 .bf16) (f : (cc0_scratch6 : Ref sig .tc).ty.Contents (Elt F)) (n : ℕ)
    {off : Fin 3 → ℕ} (ho : off = ![(batchOf n).val, 0, 64 * (headOf n).val]) {inb : ∀ a, off a + S1x256x64.size a ≤ S2x256x1024.size a}
    {hl : (Memref.whole cc0_scratch6 : Memref sig .tc .vmem S2x256x1024 .bf16).view.LoadsAt (Rect.unit (s := S2x256x1024) off S1x256x64.size inb).toLoadRect}
    {w : FVec F S1x256x64 .bf16} (hw : w = P (batchOf n) (headOf n))
    {hx : ((Memref.whole cc0_scratch6 : Memref sig .tc .vmem S2x256x1024 .bf16).access (Rect.unit (s := S2x256x1024) off S1x256x64.size inb)).Stores Finset.univ} {hm}
    {k : PUnit → Prog (TpuEff nD τ sig (Elt F) Λ₀ .tc) α} :
    holds c cc0_scratch6 fullShare (filled P f n)
      ⊢ iprop((holds c cc0_scratch6 fullShare (filled P f (n + 1)) -∗ wp frame (wpE (defs₀ (F := F)) 𝒱₀ (c : Thread nD τ) none) Set.univ (k ⟨⟩) Q)
        -∗ wp frame (wpE (defs₀ (F := F)) 𝒱₀ (c : Thread nD τ) none) Set.univ
          (.op (.load (Memref.whole cc0_scratch6 : Memref sig .tc .vmem S2x256x1024 .bf16) (Rect.unit (s := S2x256x1024) off S1x256x64.size inb).toLoadRect hl) fun _ =>
            .op (.store (Memref.whole cc0_scratch6 : Memref sig .tc .vmem S2x256x1024 .bf16) (Rect.unit (s := S2x256x1024) off S1x256x64.size inb) w Finset.univ hx hm) k) Q) := by
  iintro Ho Hk
  iapply (wp_read c (Memref.whole cc0_scratch6 : Memref sig .tc .vmem S2x256x1024 .bf16) _ rfl) $$ Ho
  iintro Ho
  iapply (wp_block c P f n ho hw) $$ Ho
  iintro Ho
  iapply Hk
  iexact Ho

/-! ## The exchange -/

/-- The signal to the mate's barrier hands over the device's own landing buffers. -/
theorem wp_tell {α : Type} {Q : α → sProp 𝕄} (n : Dev nD) (hn : n = mate c) (s : Sem sig) (hs : SemLoc.reg s = semOf bar) (j : ℕ) (hj : j = 1) (ks : List Slot) {k : PUnit → Prog (TpuEff nD τ sig (Elt F) Λ₀ .tc) α} :
    iprop(records m K ∗ debt c (bar :: ks) ∗ dutyTok ER (cell (mate c) bar) 0 () ∗ pay m (mate c) bar)
      ⊢ iprop((debt c ks -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) s j) k) Q) := by
  subst hn hj
  obtain rfl : s = (SemArray.scalar (sig.barrier 0 rfl) : Sems sig S_).sem := SemLoc.reg.inj hs
  have hp : (sched m).payload ((mate c : Thread nD τ), .reg (SemArray.scalar (sig.barrier 0 rfl) : Sems sig S_).sem) 0 () = pay m (mate c) bar := sched_payload m (mate c) bar
  unfold debt
  iintro ⟨#Hr, ⟨%W, HO⟩, Ht, Hp⟩ Hk
  ihave #Hi := (records_inv m K (mate c) bar) $$ Hr
  ihave #Hre := (records_reached m K (mate c) bar) $$ Hr
  iapply (Rounds.wp_signal 𝒱₀ ER (sched m) (c : Thread nD τ) none (dst := (mate c : Thread nD τ)) (κ := K (mate c, bar)) (O₀ := owed c (bar :: ks))
      (d := ()) (mem_duties m (mate c) bar) (sched_amount m (mate c) bar) () (owed c ks) rfl) $$ [HO Ht Hp]
  · isplitr; · iexact Hi
    isplitl [HO]; · iexact HO
    isplitl [Ht]; · iexact Ht
    isplitl [Hp]; · rw [hp]; iexact Hp
    iexact Hre
  iintro HO
  iapply Hk
  iexists W; iexact HO

/-- Copy `i` to the mate: the source's left half goes with it, and the mate's landing buffer. -/
theorem wp_copy {α : Type} {Q : α → sProp 𝕄} (n : Dev nD) (hn : n = mate c) (i : Fin 3) {s : Shape} {e : EltTy} (src dst : Memref sig .tc .vmem s e)
    {q₁ q₂ : DmaSem sig} (h₁ : q₁ = sndSem i) (h₂ : q₂ = rcvSem i)
    {hsc : dst.view.ref.isScScratch = false} {hsrc : src.view.WordExact} {hdst : dst.view.WordExact}
    {hsem : DmaTarget.Typed .vmem (.dma q₂) (.remote (Dev.tc n : Thread nD τ) dst (.dma q₁) hsc)}
    (hS : src.view.set = Finset.univ) (hD : dst.view.set = Finset.univ) (hN : dst.view.dmaCredit = copyAmt i)
    (fs : Buf (Elt F) (src.view.loc (c : Thread nD τ))) (fd : Buf (Elt F) (dst.view.loc (mate c : Thread nD τ)))
    (hp₁ : (src.view.loc (c : Thread nD τ) ↦{fullShare.left} fs : sProp 𝕄) ⊢ pay m c (snd i))
    (hp₂ : (dst.view.loc (mate c : Thread nD τ) ↦{fullShare} (dst.view.write (Elt F) fd (src.view.read (Elt F) fs) Finset.univ) : sProp 𝕄) ⊢ pay m (mate c) (rcv i))
    (ks : List Slot) {k : PUnit → Prog (TpuEff nD τ sig (Elt F) Λ₀ .tc) α} :
    iprop(records m K ∗ (src.view.loc (c : Thread nD τ) ↦{fullShare.left} fs) ∗ (dst.view.loc (mate c : Thread nD τ) ↦{fullShare} fd)
        ∗ debt c (rcv i :: ks) ∗ dutyTok ER (cell c (snd i)) 0 () ∗ dutyTok ER (cell (mate c) (rcv i)) 0 ())
      ⊢ iprop(((cred (tallyAt (cell c (snd i)) () (amt (snd i))) ∗ debt c ks) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc n : Thread nD τ) dst (.dma q₁) hsc) (.dma q₂) hsrc hdst hsem) k) Q) := by
  subst hn h₁ h₂
  have h := fun W : Waits sig Unit => Rounds.wp_send_pointsTo (defs := defs₀ (F := F)) (W := W) (Γ := .empty) 𝒱₀ ER (sched m) (c : Thread nD τ) none (κ₁ := K (c, snd i)) (κ₂ := K (mate c, rcv i)) (Q := Q) (k := k)
    (src := src) (dst := dst) (c' := (Dev.tc (mate c) : Thread nD τ)) (hsc := hsc) (sS := .dma (sndSem i)) (sem := .dma (rcvSem i)) (hsrc := hsrc) (hdst := hdst) (hsem := hsem)
    (r₁ := 0) (r₂ := 0) (d₁ := ()) (d₂ := ()) (q := fullShare.left) (fs := fs) (fd := fd) (mem_duties m c (snd i)) (mem_duties m (mate c) (rcv i)) () () (copyAmt i) hN
    (sched_amount m c (snd i)) (sched_amount m (mate c) (rcv i)) (O₀ := owed c (rcv i :: ks)) (owed c ks) rfl
    (by rw [hS]; exact hp₁.trans (Entails.of_eq (sched_payload m c (snd i)).symm))
    (by rw [hD]; exact hp₂.trans (Entails.of_eq (sched_payload m (mate c) (rcv i)).symm)) (Es := Set.univ)
  simp only [hS, hD] at h
  unfold debt
  iintro ⟨#Hr, Hs, Hd, ⟨%W, HO⟩, Ht₁, Ht₂⟩ Hk
  iapply (h W) $$ [Hs Hd HO Ht₁ Ht₂]
  · isplitr; · iapply (records_inv m K c (snd i)); iexact Hr
    isplitr; · iapply (records_inv m K (mate c) (rcv i)); iexact Hr
    isplitl [Hs]; · iexact Hs
    isplitl [Hd]; · iexact Hd
    isplitl [HO]; · iexact HO
    isplitl [Ht₁]; · iexact Ht₁
    isplitr; · iapply (records_reached m K c (snd i)); iexact Hr
    isplitl [Ht₂]; · iexact Ht₂
    iapply (records_reached m K (mate c) (rcv i)); iexact Hr
  iintro ⟨Hc, HO⟩
  iapply Hk
  isplitl [Hc]; · iexact Hc
  iexists W; iexact HO

/-- A wait on an own semaphore: what comes with its one unit, and the semaphore back at zero. -/
theorem wp_await {α : Type} {Q : α → sProp 𝕄} (k : Slot) {w : TpuEff nD τ sig (Elt F) Λ₀ (c : Thread nD τ).2 PUnit}
    (hw : ∀ J : PUnit → sProp 𝕄, wpE (defs₀ (F := F)) 𝒱₀ (c : Thread nD τ) none Set.univ w J = waitSpec (c : Thread nD τ) Set.univ (semOf k) (amt k) J)
    (ks : List Slot) (hlev : ∀ l ∈ ks, lvS (semOf k) < lvS (semOf l)) {p : PUnit → Prog (TpuEff nD τ sig (Elt F) Λ₀ .tc) α} :
    iprop(records m K ∗ levAts L lv ∗ cred (tallyAt (cell c k) () (amt k)) ∗ debt c ks ∗ atPos ER (cell c k) 0 ∅ 0)
      ⊢ iprop(((debt c ks ∗ semVal (cell c k) 0 ∗ pay m c k) -∗ wp frame (wpE (defs₀ (F := F)) 𝒱₀ (c : Thread nD τ) none) Set.univ (p ⟨⟩) Q)
        -∗ wp frame (wpE (defs₀ (F := F)) 𝒱₀ (c : Thread nD τ) none) Set.univ (.op w p) Q) := by
  unfold debt
  iintro ⟨#Hr, #Hlev, Hc, ⟨%W, HO⟩, Hat⟩ Hk
  ihave #Hi := (records_inv m K c k) $$ Hr
  iapply (Rounds.wp_wait_rest_token 𝒱₀ ER (sched m) (c : Thread nD τ) none (κ := K (c, k)) hw (Set.mem_univ _) () (O := owed c ks) (W := W) (R := 0) (m := 0) (T := ∅)
      (by rw [Nat.zero_add]; exact (sched_expect m c k).symm)) $$ [Hc HO Hat]
  · isplitr; · iexact Hi
    isplitl [Hc]; · iexact Hc
    isplitl [HO]; · iexact HO
    isplitr; · iapply (mayWait c (semOf k) ks hlev); iexact Hlev
    iexact Hat
  iintro ⟨HO, Hat, -, Hp⟩
  imod (Rounds.cell_close ER (sched m) (Set.mem_univ (K (c, k))) (fun h => h) (R := 0 + 1) (sched_later m (cell c k))) $$ [Hat] with Hz
  · isplitr; · iexact Hi
    iexact Hat
  iapply Hk
  isplitl [HO]; · iexists _; iexact HO
  isplitl [Hz]; · iexact Hz
  iapply (Entails.of_eq (sched_rest m c k)); iexact Hp

end Cert.Mla

end
-- ==== Proof.Body.lean ====
/-
The kernel's body on device `c`, run from the launch's resources to its end.
-/
module

public import proofs.«01_k».proof.Proof.Rules

@[expose] public section

set_option maxRecDepth 16384

noncomputable section

namespace Cert.Mla

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ) (K : Dev nD × Slot → ℕ) (c : Dev nD)

/-! ## The values of the run -/

/-- The projections of the device's activations, in bf16: the scaled queries, the scaled position queries, the position keys. -/
def rowsX : FVec F S512x1024 .bf16 := k0_pay4 (opX m c)
def projQ : FVec F S512x1024 .bf16 := k0_pay6 (rowsX m c) (opQ m c)
def projQr : FVec F S512x512 .bf16 := k0_pay7 (rowsX m c) (opQr m c)
def projKr : FVec F S512x32 .bf16 := k0_pay8 (rowsX m c) (opKr m c)

/-- The keys and the values: the device's half of the latent columns, then the mate's. -/
def keys : FVec F S512x1024 .bf16 := k0_pay12 (k0_pay10 (latHalf m c) (keyHalf m c)) (latHalf m (mate c)) (keyHalf m (mate c))
def vals : FVec F S512x1024 .bf16 := k0_pay13 (k0_pay11 (latHalf m c) (valHalf m c)) (latHalf m (mate c)) (valHalf m (mate c))

/-- The block each head stores. -/
def blocks : Fin 2 → Fin 16 → FVec F S1x256x64 .bf16 := headOut (projQ m c) (projQr m c) (projKr m c) (keys m c) (vals m c)

/-- What the body leaves in the output block. -/
def outAt : Vec F S2x256x1024 .f32 := k0_pay1 (k0_pay79 (k0_pay9 (opO m c)) (allHeads (blocks m c)))

/-! ## Before and after -/

/-- A whole buffer at any contents. -/
abbrev some_ (c : Dev nD) (b : Ref sig .tc) : sProp 𝕄 := iprop(∃ f : Buf (Elt F) ((c : Thread nD τ).loc b), ((c : Thread nD τ).loc b) ↦{fullShare} f)

def scratch (c : Dev nD) : sProp 𝕄 :=
  iprop(some_ c cc0_scratch0 ∗ some_ c cc0_scratch1 ∗ some_ c cc0_scratch2 ∗ some_ c cc0_scratch3 ∗ some_ c cc0_scratch4 ∗ some_ c cc0_scratch5 ∗ some_ c cc0_scratch6)

def operands : sProp 𝕄 :=
  iprop(holds c cc0_stg0_0 fullShare (opX m c) ∗ holds c cc0_stg1_0 fullShare (opDkv m c) ∗ holds c cc0_stg2_0 fullShare (opUk m c)
    ∗ holds c cc0_stg3_0 fullShare (opUv m c) ∗ holds c cc0_stg4_0 fullShare (opQ m c) ∗ holds c cc0_stg5_0 fullShare (opQr m c)
    ∗ holds c cc0_stg6_0 fullShare (opKr m c) ∗ holds c cc0_stg7_0 fullShare (opO m c))

def bodyPre : sProp 𝕄 :=
  iprop(records m K ∗ levAts L lv ∗ turns c ∗ credits c ∗ scratch c ∗ debt c debts ∗ operands m c ∗ some_ c cc0_stg8_0)

def bodyPost : sProp 𝕄 :=
  iprop(scratch c ∗ (bigSep Finset.univ fun k : Slot => semVal (cell c k) 0) ∗ debt c [] ∗ operands m c ∗ holds c cc0_stg8_0 fullShare (outAt m c))

/-! ## The run -/

theorem zero2 : (![0, 0] : Fin 2 → ℕ) = fun _ => 0 := funext fun a => by fin_cases a <;> rfl
theorem zero3 : (![0, 0, 0] : Fin 3 → ℕ) = fun _ => 0 := funext fun a => by fin_cases a <;> rfl

omit [FloatOps F] [Named F] in
theorem halves (b : Ref sig .tc) (f : b.ty.Contents (Elt F)) : (holds c b fullShare f : sProp 𝕄) ⊣⊢ iprop(holds c b fullShare.left f ∗ holds c b fullShare.right f) :=
  pointsTo_share (PosShare.mem_left_op_right _)

set_option maxHeartbeats 4000000 in
theorem run_part20 (Kt : FVec F S512x1024 .f32 → sProp 𝕄) :
    iprop(bodyPre m K c ∗ ((scratch c ∗ (bigSep Finset.univ fun k : Slot => semVal (cell c k) 0) ∗ debt c [] ∗ operands m c ∗ some_ c cc0_stg8_0)
        -∗ Kt (k0_pay79 (k0_pay9 (opO m c)) (allHeads (blocks m c)))))
      ⊢ wp frame (wpE (defs₀ (F := F)) 𝒱₀ (c : Thread nD τ) none) Set.univ
          (k0_part20 (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _) (Memref.whole cc0_stg8_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) cc0_scratch7 cc0_scratch8) Kt := by
  simp only [k0_part20_eq_skeleton]; unfold k0_part20_skel
  unfold bodyPre turns credits operands scratch
  rw [bigSep_slot, bigSep_slot]
  simp only [payer]
  iintro ⟨⟨#Hr, #Hlev, ⟨⟨HatB, HatS0, HatS1, HatS2, HatR0, HatR1, HatR2⟩, HtB, HtS0, HtS1, HtS2, HtR0, HtR1, HtR2⟩, ⟨HcB, HcR0, HcR1, HcR2⟩,
    ⟨⟨%f0, Hs0⟩, Hs1, ⟨%f2, Hs2⟩, ⟨%f3, Hs3⟩, Hs4, Hs5, ⟨%f6, Hs6⟩⟩, HO, ⟨Hx, Hdkv, Huk, Huv, Hq, Hqr, Hkr, Ho⟩, Hout⟩, Hk⟩
  -- the barrier and the two weight halves
  rw [wp_bind]
  simp only [k0_part1_eq_skeleton]; unfold k0_part1_skel
  simp only [semSignalWord, semWaitWord, Prog.lift, Prog.bind_op, Prog.bind_ret, Prog.pure_eq_ret, wp_deviceId]
  iapply (wp_tell m K c _ (dev1_mate c) _ rfl _ (by decide) [rcv 0, rcv 1, rcv 2]) $$ [HO HtB Hs1 Hs4 Hs5]
  · isplitr; · iexact Hr
    isplitl [HO]; · iexact HO
    isplitl [HtB]; · iexact HtB
    unfold pay
    rw [bigSep_three, mate_mate]
    isplitl [Hs4]; · iexact Hs4
    isplitl [Hs5]; · iexact Hs5
    iexact Hs1
  iintro HO
  iapply (wp_await m K c bar (fun _ => rfl) [rcv 0, rcv 1, rcv 2] (by decide)) $$ [HcB HO HatB]
  · isplitr; · iexact Hr
    isplitr; · iexact Hlev
    isplitl [HcB]; · iexact HcB
    isplitl [HO] <;> iassumption
  iintro ⟨HO, HzB, Hp⟩
  unfold pay
  rw [bigSep_three]
  icases Hp with ⟨⟨%g0, Hd0⟩, ⟨%g1, Hd1⟩, ⟨%g2, Hd2⟩⟩
  iapply (wp_read c (Memref.whole cc0_stg2_0) (opUk m c) (Memref.readAt_unit_zero (Elt F) cc0_stg2_0 zero2 _ _)) $$ Huk; iintro Huk
  iapply (wp_read c (Memref.whole cc0_scratch2) f2 (Memref.readAt_unit_zero (Elt F) cc0_scratch2 zero2 _ _)) $$ Hs2; iintro Hs2
  iapply (wp_overwrite c (Memref.whole cc0_scratch2) (keyHalf m c) (Memref.write_access_unit_zero_univ (Elt F) cc0_scratch2 zero2 _ _ _)) $$ Hs2; iintro Hs2
  iapply (wp_read c (Memref.whole cc0_stg3_0) (opUv m c) (Memref.readAt_unit_zero (Elt F) cc0_stg3_0 zero2 _ _)) $$ Huv; iintro Huv
  iapply (wp_read c (Memref.whole cc0_scratch3) f3 (Memref.readAt_unit_zero (Elt F) cc0_scratch3 zero2 _ _)) $$ Hs3; iintro Hs3
  iapply (wp_overwrite c (Memref.whole cc0_scratch3) (valHalf m c) (Memref.write_access_unit_zero_univ (Elt F) cc0_scratch3 zero2 _ _ _)) $$ Hs3; iintro Hs3
  rw [wp_ret]; imodintro
  -- the copies of the weight halves, and the latent half
  rw [wp_bind]
  simp only [k0_part2_eq_skeleton]; unfold k0_part2_skel
  simp only [Prog.lift, Prog.bind_op, Prog.bind_ret, Prog.pure_eq_ret]
  ihave Hs2 := (halves c cc0_scratch2 (keyHalf m c)).1 $$ Hs2
  icases Hs2 with ⟨Hs2l, Hs2⟩
  ihave Hs3 := (halves c cc0_scratch3 (valHalf m c)).1 $$ Hs3
  icases Hs3 with ⟨Hs3l, Hs3⟩
  iapply (wp_copy m K c _ (dev2_mate c) 0 (Memref.whole cc0_scratch2) (Memref.whole cc0_scratch4) (by decide) (by decide) (View.set_whole _) (View.set_whole _) rfl
    (keyHalf m c) g0 (Entails.of_eq rfl) (Entails.of_eq (congrArg (holds (mate c) cc0_scratch4 fullShare) ((View.write_whole_univ cc0_scratch4 _ (keyHalf m c)).trans (congrArg (keyHalf m) (mate_mate c).symm)))) [rcv 1, rcv 2]) $$ [Hs2l Hd0 HO HtS0 HtR0]
  · isplitr; · iexact Hr
    isplitl [Hs2l]; · iexact Hs2l
    isplitl [Hd0]; · iexact Hd0
    isplitl [HO]; · iexact HO
    isplitl [HtS0] <;> iassumption
  iintro ⟨HcS0, HO⟩
  iapply (wp_copy m K c _ (dev3_mate c) 1 (Memref.whole cc0_scratch3) (Memref.whole cc0_scratch5) (by decide) (by decide) (View.set_whole _) (View.set_whole _) rfl
    (valHalf m c) g1 (Entails.of_eq rfl) (Entails.of_eq (congrArg (holds (mate c) cc0_scratch5 fullShare) ((View.write_whole_univ cc0_scratch5 _ (valHalf m c)).trans (congrArg (valHalf m) (mate_mate c).symm)))) [rcv 2]) $$ [Hs3l Hd1 HO HtS1 HtR1]
  · isplitr; · iexact Hr
    isplitl [Hs3l]; · iexact Hs3l
    isplitl [Hd1]; · iexact Hd1
    isplitl [HO]; · iexact HO
    isplitl [HtS1] <;> iassumption
  iintro ⟨HcS1, HO⟩
  iapply (wp_read c (Memref.whole cc0_stg0_0) (opX m c) (Memref.readAt_unit_zero (Elt F) cc0_stg0_0 zero3 _ _)) $$ Hx; iintro Hx
  iapply (wp_read c (Memref.whole cc0_stg1_0) (opDkv m c) (Memref.readAt_unit_zero (Elt F) cc0_stg1_0 zero2 _ _)) $$ Hdkv; iintro Hdkv
  iapply (wp_read c (Memref.whole cc0_scratch0) f0 (Memref.readAt_unit_zero (Elt F) cc0_scratch0 zero2 _ _)) $$ Hs0; iintro Hs0
  iapply (wp_overwrite c (Memref.whole cc0_scratch0) (latHalf m c) (Memref.write_access_unit_zero_univ (Elt F) cc0_scratch0 zero2 _ _ _)) $$ Hs0; iintro Hs0
  rw [wp_ret]; imodintro
  -- the copy of the latent half, the projections, and the products with the own halves
  rw [wp_bind]
  simp only [k0_part3_eq_skeleton]; unfold k0_part3_skel
  simp only [Prog.lift, Prog.bind_op, Prog.bind_ret, Prog.pure_eq_ret]
  ihave Hs0 := (halves c cc0_scratch0 (latHalf m c)).1 $$ Hs0
  icases Hs0 with ⟨Hs0l, Hs0⟩
  iapply (wp_copy m K c _ (dev4_mate c) 2 (Memref.whole cc0_scratch0) (Memref.whole cc0_scratch1) (by decide) (by decide) (View.set_whole _) (View.set_whole _) rfl
    (latHalf m c) g2 (Entails.of_eq rfl) (Entails.of_eq (congrArg (holds (mate c) cc0_scratch1 fullShare) ((View.write_whole_univ cc0_scratch1 _ (latHalf m c)).trans (congrArg (latHalf m) (mate_mate c).symm)))) []) $$ [Hs0l Hd2 HO HtS2 HtR2]
  · isplitr; · iexact Hr
    isplitl [Hs0l]; · iexact Hs0l
    isplitl [Hd2]; · iexact Hd2
    isplitl [HO]; · iexact HO
    isplitl [HtS2] <;> iassumption
  iintro ⟨HcS2, HO⟩
  iapply (wp_read c (Memref.whole cc0_stg4_0) (opQ m c) (Memref.readAt_unit_zero (Elt F) cc0_stg4_0 zero2 _ _)) $$ Hq; iintro Hq
  iapply (wp_read c (Memref.whole cc0_stg5_0) (opQr m c) (Memref.readAt_unit_zero (Elt F) cc0_stg5_0 zero2 _ _)) $$ Hqr; iintro Hqr
  iapply (wp_read c (Memref.whole cc0_stg6_0) (opKr m c) (Memref.readAt_unit_zero (Elt F) cc0_stg6_0 zero2 _ _)) $$ Hkr; iintro Hkr
  iapply (wp_read c (Memref.whole cc0_stg7_0) (opO m c) (Memref.readAt_unit_zero (Elt F) cc0_stg7_0 zero2 _ _)) $$ Ho; iintro Ho
  iapply (wp_read c (Memref.whole cc0_scratch0) (latHalf m c) (Memref.readAt_unit_zero (Elt F) cc0_scratch0 zero2 _ _)) $$ Hs0; iintro Hs0
  iapply (wp_read c (Memref.whole cc0_scratch2) (keyHalf m c) (Memref.readAt_unit_zero (Elt F) cc0_scratch2 zero2 _ _)) $$ Hs2; iintro Hs2
  iapply (wp_read c (Memref.whole cc0_scratch0) (latHalf m c) (Memref.readAt_unit_zero (Elt F) cc0_scratch0 zero2 _ _)) $$ Hs0; iintro Hs0
  iapply (wp_read c (Memref.whole cc0_scratch3) (valHalf m c) (Memref.readAt_unit_zero (Elt F) cc0_scratch3 zero2 _ _)) $$ Hs3; iintro Hs3
  rw [wp_ret]; imodintro
  -- the waits for both ends of the three copies
  rw [wp_bind]
  simp only [k0_part4_eq_skeleton]; unfold k0_part4_skel
  simp only [Prog.lift, Prog.bind_op, Prog.bind_ret, Prog.pure_eq_ret]
  iapply (wp_await m K c (snd 0) (fun _ => rfl) [] (by decide)) $$ [HcS0 HO HatS0]
  · isplitr; · iexact Hr
    isplitr; · iexact Hlev
    isplitl [HcS0]; · iexact HcS0
    isplitl [HO] <;> iassumption
  iintro ⟨HO, HzS0, Hs2l⟩
  iapply (wp_await m K c (rcv 0) (fun _ => rfl) [] (by decide)) $$ [HcR0 HO HatR0]
  · isplitr; · iexact Hr
    isplitr; · iexact Hlev
    isplitl [HcR0]; · iexact HcR0
    isplitl [HO] <;> iassumption
  iintro ⟨HO, HzR0, Hs4⟩
  iapply (wp_await m K c (snd 1) (fun _ => rfl) [] (by decide)) $$ [HcS1 HO HatS1]
  · isplitr; · iexact Hr
    isplitr; · iexact Hlev
    isplitl [HcS1]; · iexact HcS1
    isplitl [HO] <;> iassumption
  iintro ⟨HO, HzS1, Hs3l⟩
  iapply (wp_await m K c (rcv 1) (fun _ => rfl) [] (by decide)) $$ [HcR1 HO HatR1]
  · isplitr; · iexact Hr
    isplitr; · iexact Hlev
    isplitl [HcR1]; · iexact HcR1
    isplitl [HO] <;> iassumption
  iintro ⟨HO, HzR1, Hs5⟩
  iapply (wp_await m K c (snd 2) (fun _ => rfl) [] (by decide)) $$ [HcS2 HO HatS2]
  · isplitr; · iexact Hr
    isplitr; · iexact Hlev
    isplitl [HcS2]; · iexact HcS2
    isplitl [HO] <;> iassumption
  iintro ⟨HO, HzS2, Hs0l⟩
  rw [wp_ret]; imodintro
  -- the last wait and the mate's halves
  rw [wp_bind]
  simp only [k0_part5_eq_skeleton]; unfold k0_part5_skel
  simp only [Prog.lift, Prog.bind_op, Prog.bind_ret, Prog.pure_eq_ret]
  iapply (wp_await m K c (rcv 2) (fun _ => rfl) [] (by decide)) $$ [HcR2 HO HatR2]
  · isplitr; · iexact Hr
    isplitr; · iexact Hlev
    isplitl [HcR2]; · iexact HcR2
    isplitl [HO] <;> iassumption
  iintro ⟨HO, HzR2, Hs1⟩
  ihave Hs1 := (Entails.of_eq (show pay m c (rcv 2) = holds c cc0_scratch1 fullShare (latHalf m (mate c)) from rfl)) $$ Hs1
  ihave Hs4 := (Entails.of_eq (show pay m c (rcv 0) = holds c cc0_scratch4 fullShare (keyHalf m (mate c)) from rfl)) $$ Hs4
  ihave Hs5 := (Entails.of_eq (show pay m c (rcv 1) = holds c cc0_scratch5 fullShare (valHalf m (mate c)) from rfl)) $$ Hs5
  iapply (wp_read c (Memref.whole cc0_scratch1) (latHalf m (mate c)) (Memref.readAt_unit_zero (Elt F) cc0_scratch1 zero2 _ _)) $$ Hs1; iintro Hs1
  iapply (wp_read c (Memref.whole cc0_scratch4) (keyHalf m (mate c)) (Memref.readAt_unit_zero (Elt F) cc0_scratch4 zero2 _ _)) $$ Hs4; iintro Hs4
  iapply (wp_read c (Memref.whole cc0_scratch1) (latHalf m (mate c)) (Memref.readAt_unit_zero (Elt F) cc0_scratch1 zero2 _ _)) $$ Hs1; iintro Hs1
  iapply (wp_read c (Memref.whole cc0_scratch5) (valHalf m (mate c)) (Memref.readAt_unit_zero (Elt F) cc0_scratch5 zero2 _ _)) $$ Hs5; iintro Hs5
  rw [wp_ret]; imodintro
  -- the attention loop
  ihave Hs6 := (Entails.of_eq (show (holds c cc0_scratch6 fullShare f6 : sProp 𝕄) = holds c cc0_scratch6 fullShare (filled (blocks m c) f6 0) from rfl)) $$ Hs6
  rw [wp_bind]
  simp only [k0_part6_eq_skeleton]; unfold k0_part6_skel
  simp only [Prog.lift, Prog.bind_op, Prog.bind_ret, Prog.pure_eq_ret]
  iapply (wp_head c (blocks m c) f6 0 (by decide) (by rfl)) $$ Hs6; iintro Hs6
  iapply (wp_head c (blocks m c) f6 1 (by decide) (by rfl)) $$ Hs6; iintro Hs6
  rw [wp_ret]; imodintro
  rw [wp_bind]
  simp only [k0_part7_eq_skeleton]; unfold k0_part7_skel
  simp only [Prog.lift, Prog.bind_op, Prog.bind_ret, Prog.pure_eq_ret]
  iapply (wp_head c (blocks m c) f6 2 (by decide) (by rfl)) $$ Hs6; iintro Hs6
  iapply (wp_head c (blocks m c) f6 3 (by decide) (by rfl)) $$ Hs6; iintro Hs6
  iapply (wp_read c (Memref.whole cc0_scratch6 : Memref sig .tc .vmem S2x256x1024 .bf16) _ rfl) $$ Hs6; iintro Hs6
  rw [wp_ret]; imodintro
  rw [wp_bind]
  simp only [k0_part8_eq_skeleton]; unfold k0_part8_skel
  simp only [Prog.lift, Prog.bind_op, Prog.bind_ret, Prog.pure_eq_ret]
  iapply (wp_block c (blocks m c) f6 4 (by decide) (by rfl)) $$ Hs6; iintro Hs6
  iapply (wp_head c (blocks m c) f6 5 (by decide) (by rfl)) $$ Hs6; iintro Hs6
  iapply (wp_head c (blocks m c) f6 6 (by decide) (by rfl)) $$ Hs6; iintro Hs6
  rw [wp_ret]; imodintro
  rw [wp_bind]
  simp only [k0_part9_eq_skeleton]; unfold k0_part9_skel
  simp only [Prog.lift, Prog.bind_op, Prog.bind_ret, Prog.pure_eq_ret]
  iapply (wp_head c (blocks m c) f6 7 (by decide) (by rfl)) $$ Hs6; iintro Hs6
  iapply (wp_head c (blocks m c) f6 8 (by decide) (by rfl)) $$ Hs6; iintro Hs6
  rw [wp_ret]; imodintro
  rw [wp_bind]
  simp only [k0_part10_eq_skeleton]; unfold k0_part10_skel
  simp only [Prog.lift, Prog.bind_op, Prog.bind_ret, Prog.pure_eq_ret]
  iapply (wp_head c (blocks m c) f6 9 (by decide) (by rfl)) $$ Hs6; iintro Hs6
  iapply (wp_head c (blocks m c) f6 10 (by decide) (by rfl)) $$ Hs6; iintro Hs6
  rw [wp_ret]; imodintro
  rw [wp_bind]
  simp only [k0_part11_eq_skeleton]; unfold k0_part11_skel
  simp only [Prog.lift, Prog.bind_op, Prog.bind_ret, Prog.pure_eq_ret]
  iapply (wp_head c (blocks m c) f6 11 (by decide) (by rfl)) $$ Hs6; iintro Hs6
  iapply (wp_head c (blocks m c) f6 12 (by decide) (by rfl)) $$ Hs6; iintro Hs6
  rw [wp_ret]; imodintro
  rw [wp_bind]
  simp only [k0_part12_eq_skeleton]; unfold k0_part12_skel
  simp only [Prog.lift, Prog.bind_op, Prog.bind_ret, Prog.pure_eq_ret]
  iapply (wp_head c (blocks m c) f6 13 (by decide) (by rfl)) $$ Hs6; iintro Hs6
  iapply (wp_head c (blocks m c) f6 14 (by decide) (by rfl)) $$ Hs6; iintro Hs6
  iapply (wp_head c (blocks m c) f6 15 (by decide) (by rfl)) $$ Hs6; iintro Hs6
  rw [wp_ret]; imodintro
  rw [wp_bind]
  simp only [k0_part13_eq_skeleton]; unfold k0_part13_skel
  simp only [Prog.lift, Prog.bind_op, Prog.bind_ret, Prog.pure_eq_ret]
  iapply (wp_head c (blocks m c) f6 16 (by decide) (by rfl)) $$ Hs6; iintro Hs6
  rw [wp_ret]; imodintro
  rw [wp_bind]
  simp only [k0_part14_eq_skeleton]; unfold k0_part14_skel
  simp only [Prog.lift, Prog.bind_op, Prog.bind_ret, Prog.pure_eq_ret]
  iapply (wp_head c (blocks m c) f6 17 (by decide) (by rfl)) $$ Hs6; iintro Hs6
  iapply (wp_head c (blocks m c) f6 18 (by decide) (by rfl)) $$ Hs6; iintro Hs6
  rw [wp_ret]; imodintro
  rw [wp_bind]
  simp only [k0_part15_eq_skeleton]; unfold k0_part15_skel
  simp only [Prog.lift, Prog.bind_op, Prog.bind_ret, Prog.pure_eq_ret]
  iapply (wp_head c (blocks m c) f6 19 (by decide) (by rfl)) $$ Hs6; iintro Hs6
  iapply (wp_head c (blocks m c) f6 20 (by decide) (by rfl)) $$ Hs6; iintro Hs6
  rw [wp_ret]; imodintro
  rw [wp_bind]
  simp only [k0_part16_eq_skeleton]; unfold k0_part16_skel
  simp only [Prog.lift, Prog.bind_op, Prog.bind_ret, Prog.pure_eq_ret]
  iapply (wp_head c (blocks m c) f6 21 (by decide) (by rfl)) $$ Hs6; iintro Hs6
  iapply (wp_head c (blocks m c) f6 22 (by decide) (by rfl)) $$ Hs6; iintro Hs6
  iapply (wp_head c (blocks m c) f6 23 (by decide) (by rfl)) $$ Hs6; iintro Hs6
  rw [wp_ret]; imodintro
  rw [wp_bind]
  simp only [k0_part17_eq_skeleton]; unfold k0_part17_skel
  simp only [Prog.lift, Prog.bind_op, Prog.bind_ret, Prog.pure_eq_ret]
  iapply (wp_head c (blocks m c) f6 24 (by decide) (by rfl)) $$ Hs6; iintro Hs6
  iapply (wp_head c (blocks m c) f6 25 (by decide) (by rfl)) $$ Hs6; iintro Hs6
  rw [wp_ret]; imodintro
  rw [wp_bind]
  simp only [k0_part18_eq_skeleton]; unfold k0_part18_skel
  simp only [Prog.lift, Prog.bind_op, Prog.bind_ret, Prog.pure_eq_ret]
  iapply (wp_head c (blocks m c) f6 26 (by decide) (by rfl)) $$ Hs6; iintro Hs6
  iapply (wp_head c (blocks m c) f6 27 (by decide) (by rfl)) $$ Hs6; iintro Hs6
  rw [wp_ret]; imodintro
  rw [wp_bind]
  simp only [k0_part19_eq_skeleton]; unfold k0_part19_skel
  simp only [Prog.lift, Prog.bind_op, Prog.bind_ret, Prog.pure_eq_ret]
  iapply (wp_head c (blocks m c) f6 28 (by decide) (by rfl)) $$ Hs6; iintro Hs6
  iapply (wp_head c (blocks m c) f6 29 (by decide) (by rfl)) $$ Hs6; iintro Hs6
  rw [wp_ret]; imodintro
  iapply (wp_head c (blocks m c) f6 30 (by decide) (by rfl)) $$ Hs6; iintro Hs6
  iapply (wp_head c (blocks m c) f6 31 (by decide) (by rfl)) $$ Hs6; iintro Hs6
  ihave Hs6 := (Entails.of_eq (congrArg (holds c cc0_scratch6 fullShare) (filled_all (blocks m c) f6))) $$ Hs6
  iapply (wp_read c (Memref.whole cc0_scratch6) (allHeads (blocks m c)) (Memref.readAt_unit_zero (Elt F) cc0_scratch6 zero3 _ _)) $$ Hs6; iintro Hs6
  rw [wp_ret]; imodintro
  -- what the sends lent comes back
  ihave Hs2l := (Entails.of_eq (show pay m c (snd 0) = holds c cc0_scratch2 fullShare.left (keyHalf m c) from rfl)) $$ Hs2l
  ihave Hs3l := (Entails.of_eq (show pay m c (snd 1) = holds c cc0_scratch3 fullShare.left (valHalf m c) from rfl)) $$ Hs3l
  ihave Hs0l := (Entails.of_eq (show pay m c (snd 2) = holds c cc0_scratch0 fullShare.left (latHalf m c) from rfl)) $$ Hs0l
  ihave Hs2 := (halves c cc0_scratch2 (keyHalf m c)).2 $$ [Hs2l Hs2]
  · isplitl [Hs2l] <;> iassumption
  ihave Hs3 := (halves c cc0_scratch3 (valHalf m c)).2 $$ [Hs3l Hs3]
  · isplitl [Hs3l] <;> iassumption
  ihave Hs0 := (halves c cc0_scratch0 (latHalf m c)).2 $$ [Hs0l Hs0]
  · isplitl [Hs0l] <;> iassumption
  iapply Hk
  isplitl [Hs0 Hs1 Hs2 Hs3 Hs4 Hs5 Hs6]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    iexists _; iexact Hs6
  isplitl [HzB HzS0 HzS1 HzS2 HzR0 HzR1 HzR2]
  · rw [bigSep_slot]
    isplitl [HzB]; · iexact HzB
    isplitl [HzS0]; · iexact HzS0
    isplitl [HzS1]; · iexact HzS1
    isplitl [HzS2]; · iexact HzS2
    isplitl [HzR0]; · iexact HzR0
    isplitl [HzR1] <;> iassumption
  isplitl [HO]; · iexact HO
  isplitl [Hx Hdkv Huk Huv Hq Hqr Hkr Ho]
  · isplitl [Hx]; · iexact Hx
    isplitl [Hdkv]; · iexact Hdkv
    isplitl [Huk]; · iexact Huk
    isplitl [Huv]; · iexact Huv
    isplitl [Hq]; · iexact Hq
    isplitl [Hqr]; · iexact Hqr
    isplitl [Hkr] <;> iassumption
  iexact Hout

/-- The whole body: the run above, then the store of the result. -/
theorem run_body (Kt : PUnit → sProp 𝕄) :
    iprop(bodyPre m K c ∗ (bodyPost m c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _) (Memref.whole cc0_stg8_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) cc0_scratch7 cc0_scratch8) Kt := by
  simp only [cc0_body_eq_skeleton]; unfold cc0_body_skel
  rw [wp_bind]
  iintro ⟨Hpre, Hk⟩
  iapply (run_part20 m K c)
  isplitl [Hpre]; · iexact Hpre
  iintro ⟨Hs, Hz, HO, Hin, ⟨%f8, Hout⟩⟩
  simp only [Prog.lift, Prog.bind_op, Prog.bind_ret, Prog.pure_eq_ret]
  iapply (wp_read c (Memref.whole cc0_stg8_0) f8 (Memref.readAt_unit_zero (Elt F) cc0_stg8_0 zero3 _ _)) $$ Hout; iintro Hout
  iapply (wp_overwrite c (Memref.whole cc0_stg8_0) (outAt m c) (Memref.write_access_unit_zero_univ (Elt F) cc0_stg8_0 zero3 _ _ _)) $$ Hout; iintro Hout
  rw [wp_ret]; imodintro
  iapply Hk
  unfold bodyPost
  isplitl [Hs]; · iexact Hs
  isplitl [Hz]; · iexact Hz
  isplitl [HO]; · iexact HO
  isplitl [Hin] <;> iassumption

end Cert.Mla

end
-- ==== Proof.Launch.lean ====
/-
The launch: the eight devices' resources dealt once for all of them, and the run they give.
-/
module

public import proofs.«01_k».proof.Proof.Body
public import Idealize.ShloMosaic.Lib.Pipeline.CollectiveSegs

@[expose] public section

set_option maxRecDepth 16384

noncomputable section

namespace Cert.Mla

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The pipeline's proof data -/

/-- The seven counters back at zero, their cells closed. -/
def closed (c : Dev nD) : sProp 𝕄 := bigSep Finset.univ fun k : Slot => semVal (cell c k) 0

def before (c : Dev nD) : sProp 𝕄 := iprop(start m c ∗ scratch c)
def after (c : Dev nD) : sProp 𝕄 := iprop(scratch c ∗ closed c)

def dats (_ : Fin 1) (c : Dev nD) : Dat τ (Elt F) Unit ℕ UU ℕ cfg0 c where
  A w := (start₀ m ρ).mem ((cfg0.win w).arr.view.loc (c : Thread nD τ))
  after w _ := match w with
    | ⟨0, _⟩ => opX m c
    | ⟨1, _⟩ => opDkv m c
    | ⟨2, _⟩ => opUk m c
    | ⟨3, _⟩ => opUv m c
    | ⟨4, _⟩ => opQ m c
    | ⟨5, _⟩ => opQr m c
    | ⟨6, _⟩ => opKr m c
    | ⟨7, _⟩ => opO m c
    | ⟨8, _⟩ => outAt m c
  Φ t := match t with
    | ⟨0, _⟩ => before m c
    | ⟨_ + 1, _⟩ => after c
  q _ := fullShare
  owed t := match t with
    | ⟨0, _⟩ => owed c debts
    | ⟨_ + 1, _⟩ => 0

theorem one_point : cfg0.N = 1 := N_0
def point : Fin cfg0.N := ⟨0, by rw [one_point]; decide⟩
theorem eq_point (t : Fin cfg0.N) : t = point := by
  obtain ⟨t, ht⟩ := t; have := one_point; exact Fin.ext (by simp only [point]; omega)

/-- A staging buffer at contents `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] [Named F] in
theorem owns_eq_staged (c : Dev nD) (b : Ref sig .tc) (X : b.ty.Contents (Elt F)) :
    (owns (Ix := Unit) (Name := ℕ) (U := UU) (Lvl := ℕ) (c : Thread nD τ) (Memref.whole b) fullShare X : sProp 𝕄) = staged c b X := by
  unfold owns; simp only [Memref.view_whole, View.read_whole, View.set_whole]

omit [FloatOps F] [Named F] in
theorem staged_intro (c : Dev nD) (b : Ref sig .tc) (X : b.ty.Contents (Elt F)) : (holds c b fullShare X : sProp 𝕄) ⊢ staged c b X := by
  iintro H; iexists X; isplitr; · (ipureintro; rfl)
  iexact H

/-- A fetched operand's staging buffer holds the operand, whatever it held before. -/
theorem staged_elim (c : Dev nD) (b : Ref sig .tc) (B : b.ty.Contents (Elt F) → b.ty.Contents (Elt F)) (X : b.ty.Contents (Elt F)) (h : ∀ d, B d = X) :
    (iprop(∃ d, staged c b (B d)) : sProp 𝕄) ⊢ holds c b fullShare X := by
  iintro ⟨%d, %f, %hf, H⟩
  have : f = X := hf.trans (h d)
  subst this
  iexact H

section Point
variable (c : Dev nD)

theorem before_0 (d) : (dats m ρ 0 c).before (0 : Fin 9) point d = opX m c := by unfold Dat.before; rw [if_pos (fetch0_0 point)]; rfl
theorem before_1 (d) : (dats m ρ 0 c).before (1 : Fin 9) point d = opDkv m c := by unfold Dat.before; rw [if_pos (fetch0_1 point)]; rfl
theorem before_2 (d) : (dats m ρ 0 c).before (2 : Fin 9) point d = opUk m c := by unfold Dat.before; rw [if_pos (fetch0_2 point)]; rfl
theorem before_3 (d) : (dats m ρ 0 c).before (3 : Fin 9) point d = opUv m c := by unfold Dat.before; rw [if_pos (fetch0_3 point)]; rfl
theorem before_4 (d) : (dats m ρ 0 c).before (4 : Fin 9) point d = opQ m c := by unfold Dat.before; rw [if_pos (fetch0_4 point)]; rfl
theorem before_5 (d) : (dats m ρ 0 c).before (5 : Fin 9) point d = opQr m c := by unfold Dat.before; rw [if_pos (fetch0_5 point)]; rfl
theorem before_6 (d) : (dats m ρ 0 c).before (6 : Fin 9) point d = opKr m c := by unfold Dat.before; rw [if_pos (fetch0_6 point)]; rfl
theorem before_7 (d) : (dats m ρ 0 c).before (7 : Fin 9) point d = opO m c := by unfold Dat.before; rw [if_pos (fetch0_7 point)]; rfl

/-- What the pipeline gives the body at its point, -/
def pointPre : sProp 𝕄 :=
  iprop(before m c ∗ (dats m ρ 0 c).owesAt () point.castSucc
    ∗ (∃ d, staged c cc0_stg0_0 ((dats m ρ 0 c).before (0 : Fin 9) point d))
    ∗ (∃ d, staged c cc0_stg1_0 ((dats m ρ 0 c).before (1 : Fin 9) point d))
    ∗ (∃ d, staged c cc0_stg2_0 ((dats m ρ 0 c).before (2 : Fin 9) point d))
    ∗ (∃ d, staged c cc0_stg3_0 ((dats m ρ 0 c).before (3 : Fin 9) point d))
    ∗ (∃ d, staged c cc0_stg4_0 ((dats m ρ 0 c).before (4 : Fin 9) point d))
    ∗ (∃ d, staged c cc0_stg5_0 ((dats m ρ 0 c).before (5 : Fin 9) point d))
    ∗ (∃ d, staged c cc0_stg6_0 ((dats m ρ 0 c).before (6 : Fin 9) point d))
    ∗ (∃ d, staged c cc0_stg7_0 ((dats m ρ 0 c).before (7 : Fin 9) point d))
    ∗ (∃ d, staged c cc0_stg8_0 ((dats m ρ 0 c).before (8 : Fin 9) point d)))

/-- and what it takes back. -/
def pointPost : sProp 𝕄 :=
  iprop(after c ∗ (dats m ρ 0 c).owesAt () point.succ ∗ staged c cc0_stg0_0 (opX m c) ∗ staged c cc0_stg1_0 (opDkv m c)
    ∗ staged c cc0_stg2_0 (opUk m c) ∗ staged c cc0_stg3_0 (opUv m c) ∗ staged c cc0_stg4_0 (opQ m c) ∗ staged c cc0_stg5_0 (opQr m c)
    ∗ staged c cc0_stg6_0 (opKr m c) ∗ staged c cc0_stg7_0 (opO m c) ∗ staged c cc0_stg8_0 (outAt m c))

theorem point_pre : pointPre m ρ c ⊢ iprop(∃ K, bodyPre m K c) := by
  unfold pointPre before start ghost bodyPre operands Dat.owesAt Pipeline.owesWithin
  iintro ⟨⟨⟨⟨%K, Hr, Ht⟩, Hc, Hl⟩, Hs⟩, ⟨%W, -, HO⟩, H0, H1, H2, H3, H4, H5, H6, H7, ⟨%d8, %f8, -, H8⟩⟩
  iexists K
  isplitl [Hr]; · iexact Hr
  isplitl [Hl]; · iexact Hl
  isplitl [Ht]; · iexact Ht
  isplitl [Hc]; · iexact Hc
  isplitl [Hs]; · iexact Hs
  isplitl [HO]; · unfold debt; iexists W; iexact HO
  isplitr [H8]
  · isplitl [H0]; · iapply (staged_elim c cc0_stg0_0 _ _ (before_0 m ρ c)) $$ H0
    isplitl [H1]; · iapply (staged_elim c cc0_stg1_0 _ _ (before_1 m ρ c)) $$ H1
    isplitl [H2]; · iapply (staged_elim c cc0_stg2_0 _ _ (before_2 m ρ c)) $$ H2
    isplitl [H3]; · iapply (staged_elim c cc0_stg3_0 _ _ (before_3 m ρ c)) $$ H3
    isplitl [H4]; · iapply (staged_elim c cc0_stg4_0 _ _ (before_4 m ρ c)) $$ H4
    isplitl [H5]; · iapply (staged_elim c cc0_stg5_0 _ _ (before_5 m ρ c)) $$ H5
    isplitl [H6]; · iapply (staged_elim c cc0_stg6_0 _ _ (before_6 m ρ c)) $$ H6
    iapply (staged_elim c cc0_stg7_0 _ _ (before_7 m ρ c)) $$ H7
  iexists f8; iexact H8

theorem point_post : bodyPost m c ⊢ pointPost m ρ c := by
  unfold pointPost bodyPost after closed operands debt Dat.owesAt Pipeline.owesWithin
  rw [show (dats m ρ 0 c).owed point.succ = owed c [] from rfl]
  iintro ⟨Hs, Hz, ⟨%W, HO⟩, ⟨H0, H1, H2, H3, H4, H5, H6, H7⟩, H8⟩
  isplitl [Hs Hz]
  · isplitl [Hs] <;> iassumption
  isplitl [HO]
  · iexists W
    isplitr; · ipureintro; exact fun _ _ => Or.inl trivial
    iexact HO
  isplitl [H0]; · iapply (staged_intro c cc0_stg0_0 _) $$ H0
  isplitl [H1]; · iapply (staged_intro c cc0_stg1_0 _) $$ H1
  isplitl [H2]; · iapply (staged_intro c cc0_stg2_0 _) $$ H2
  isplitl [H3]; · iapply (staged_intro c cc0_stg3_0 _) $$ H3
  isplitl [H4]; · iapply (staged_intro c cc0_stg4_0 _) $$ H4
  isplitl [H5]; · iapply (staged_intro c cc0_stg5_0 _) $$ H5
  isplitl [H6]; · iapply (staged_intro c cc0_stg6_0 _) $$ H6
  isplitl [H7]; · iapply (staged_intro c cc0_stg7_0 _) $$ H7
  iapply (staged_intro c cc0_stg8_0 _) $$ H8

omit [FloatOps F] [Named F] in
theorem bigSep_windows (Φ : Fin cfg0.W → sProp 𝕄) : bigSep Finset.univ Φ
    = iprop(Φ (0 : Fin 9) ∗ Φ (1 : Fin 9) ∗ Φ (2 : Fin 9) ∗ Φ (3 : Fin 9) ∗ Φ (4 : Fin 9) ∗ Φ (5 : Fin 9) ∗ Φ (6 : Fin 9) ∗ Φ (7 : Fin 9) ∗ Φ (8 : Fin 9)) := bigSep_W0 Φ

theorem body_obligation : BodyObligation (dats (F := F) m ρ 0 c) (defs₀ (F := F)) 𝒱₀ () Set.univ := fun t => by
  rw [eq_point t]
  rw [bigSep_windows, bigSep_windows]
  simp only [owns_eq_staged]
  show pointPre m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _) (Memref.whole cc0_stg8_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) cc0_scratch7 cc0_scratch8) (fun _ => pointPost m ρ c)
  iintro H
  ihave H := (point_pre m ρ c) $$ H
  icases H with ⟨%K, H⟩
  iapply (run_body m K c fun _ => pointPost m ρ c)
  isplitl [H]; · iexact H
  iintro H; iapply (point_post m ρ c) $$ H

end Point

/-! ## Dealing the ghost state -/

/-- The kernel's own semaphores: the sends' and the receives'. -/
abbrev osem : Fin 3 ⊕ Fin 3 → SemLoc sig := fun k => semOf (.inr k)

theorem ownSemFacts : Pipeline.OwnSemFacts cfg0.spec osem := by decide

theorem share_eq (c : Dev nD) (w : Fin cfg0.W) : (dats m ρ 0 c).share w = fullShare := by unfold Dat.share; split <;> rfl

def allCells : Finset (GSem nD τ sig) := Finset.univ.map ⟨fun p : Dev nD × Slot => cell p.1 p.2, cell_inj⟩

theorem tok_inj : Function.Injective (fun p : Dev nD × Slot => ((cell p.1 p.2, 0, ()) : GSem nD τ sig × ℕ × Unit)) :=
  fun _ _ h => cell_inj (congrArg (fun x : GSem nD τ sig × ℕ × Unit => x.1) h)

def allToks : Finset (GSem nD τ sig × ℕ × Unit) := Finset.univ.map ⟨_, tok_inj⟩

def u₀ : UU := (initOf (Pipeline.cells cfgs cellOf_inj) (Pipeline.launchToks cfgs cellOf_inj), initOf allCells allToks)

/-- What the launch deals device `c`: its seven cells, unopened, and the tokens of their duties. -/
def dealt (c : Dev nD) : sProp 𝕄 :=
  iprop((bigSep Finset.univ fun k : Slot => roundState ER (sched m) (cell c k) 0)
    ∗ (bigSep Finset.univ fun k : Slot => atPos ER (cell c k) 0 ∅ 0) ∗ (bigSep Finset.univ fun k : Slot => reached ER (cell c k) 0)
    ∗ bigSep Finset.univ fun k : Slot => dutyTok ER (cell c k) 0 ())

theorem deal : BI.own (ER (initOf allCells allToks)) ⊢ (|==> bigSep Finset.univ (dealt m) : sProp 𝕄) := by
  have hX (Φ : GSem nD τ sig → sProp 𝕄) : bigSep allCells Φ = bigSep Finset.univ fun c : Dev nD => bigSep Finset.univ fun k : Slot => Φ (cell c k) := by
    unfold allCells; rw [bigSep_map, bigSep_univ_prod]; rfl
  have hT : bigSep allToks (fun x => (dutyTok ER x.1 x.2.1 x.2.2 : sProp 𝕄)) = bigSep Finset.univ fun c : Dev nD => bigSep Finset.univ fun k : Slot => dutyTok ER (cell c k) 0 () := by
    unfold allToks; rw [bigSep_map, bigSep_univ_prod]; rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat]; · iexact Hat
  isplitl [Hr] <;> iassumption

omit [FloatOps F] [Named F] in
theorem unscoped_eq (c : Dev nD) : (unscopedSems0 c : sProp 𝕄) = semVal (cell c bar) 0 := by
  unfold unscopedSems0; rw [bigSep_eq_bigSepL_of_eq [semOf bar] (by decide) (by decide)]; rfl

omit [FloatOps F] [Named F] in
theorem owned_eq (c : Dev nD) : (Pipeline.ownSems0 (Ix := Unit) (Name := ℕ) (U := UU) (Lvl := ℕ) (Val := Elt F) (τ := τ) osem c : sProp 𝕄)
    = bigSep Finset.univ fun k : Fin 3 ⊕ Fin 3 => semVal (cell c (.inr k)) 0 := rfl

omit [FloatOps F] [Named F] in
/-- The kernel's own counters and the barrier's are the seven. -/
theorem counters_eq (c : Dev nD) :
    iprop(Pipeline.ownSems0 (Ix := Unit) (Name := ℕ) (U := UU) (Lvl := ℕ) (Val := Elt F) (τ := τ) osem c ∗ unscopedSems0 c) ⊣⊢ (closed c : sProp 𝕄) := by
  unfold closed
  rw [owned_eq, unscoped_eq, show (bigSep Finset.univ fun k : Slot => (semVal (cell c k) 0 : sProp 𝕄))
      = iprop((bigSep Finset.univ fun u : Unit => semVal (cell c (.inl u)) 0) ∗ bigSep Finset.univ fun k : Fin 3 ⊕ Fin 3 => semVal (cell c (.inr k)) 0) from bigSep_univ_sum _,
    show (Finset.univ : Finset Unit) = {()} from rfl, bigSep_singleton]
  exact ⟨by iintro ⟨H1, H2⟩; isplitl [H2] <;> iassumption, by iintro ⟨H1, H2⟩; isplitl [H2] <;> iassumption⟩

/-- One device's cells become invariants. -/
theorem open_cells (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k : Slot => iprop(∃ κ : ℕ, cellInv ER (sched m) κ (cell c k)))
          ∗ (bigSep Finset.univ fun k : Slot => atPos ER (cell c k) 0 ∅ 0) ∗ (bigSep Finset.univ fun k : Slot => reached ER (cell c k) 0)
          ∗ bigSep Finset.univ fun k : Slot => dutyTok ER (cell c k) 0 ()) := by
  unfold dealt
  iintro ⟨Ho, Hu, Hst, Hrest⟩
  ihave Hv := (counters_eq (F := F) c).1 $$ [Ho Hu]
  · isplitl [Ho] <;> iassumption
  unfold closed
  imod (show iprop((bigSep Finset.univ fun k : Slot => semVal (cell c k) 0) ∗ bigSep Finset.univ fun k : Slot => roundState ER (sched m) (cell c k) 0)
      ⊢ (|={Set.univ}=> bigSep Finset.univ fun k : Slot => iprop(∃ κ : ℕ, cellInv ER (sched m) κ (cell c k)) : sProp 𝕄) from by
        rw [← bigSep_sep']
        exact (bigSep_mono fun k _ => (Rounds.body_intro ER (sched m) (cell c k)).trans inv_alloc).trans (bigSep_fupd _ _)) $$ [Hv Hst] with Hinv
  · isplitl [Hv] <;> iassumption
  imodintro
  isplitl [Hinv] <;> iassumption

omit [FloatOps F] [Named F] in
/-- The tokens go to the devices that pay the duties. -/
theorem tokens_to_payers : (bigSep Finset.univ fun c : Dev nD => bigSep Finset.univ fun k : Slot => (dutyTok ER (cell c k) 0 () : sProp 𝕄))
    = bigSep Finset.univ fun c : Dev nD => bigSep Finset.univ fun k : Slot => dutyTok ER (cell (payer (c, k)).1 (payer (c, k)).2) 0 () := by
  rw [← bigSep_univ_prod (fun p : Dev nD × Slot => (dutyTok ER (cell p.1 p.2) 0 () : sProp 𝕄)), bigSep_univ_equiv payers, bigSep_univ_prod]
  rfl

theorem ghost_of (K : Dev nD × Slot → ℕ) (c : Dev nD) : iprop(records m K ∗ turns c) ⊢ ghost m c := by
  unfold ghost
  iintro H; iexists K; iexact H

theorem distribute :
    (bigSep Finset.univ fun c : Dev nD => iprop((bigSep Finset.univ fun k : Slot => iprop(∃ κ : ℕ, cellInv ER (sched m) κ (cell c k)))
          ∗ (bigSep Finset.univ fun k : Slot => atPos ER (cell c k) 0 ∅ 0) ∗ (bigSep Finset.univ fun k : Slot => reached ER (cell c k) 0)
          ∗ bigSep Finset.univ fun k : Slot => dutyTok ER (cell c k) 0 ()) : sProp 𝕄)
      ⊢ bigSep Finset.univ (ghost m) := by
  rw [bigSep_sep', bigSep_sep', bigSep_sep', ← bigSep_univ_prod (fun p : Dev nD × Slot => iprop(∃ κ : ℕ, cellInv ER (sched m) κ (cell p.1 p.2))),
    ← bigSep_univ_prod (fun p : Dev nD × Slot => (reached ER (cell p.1 p.2) 0 : sProp 𝕄)), tokens_to_payers]
  iintro ⟨HI, Hat, #HR, Htok⟩
  ihave HK := (BI.bigSep_exists_pi Finset.univ (fun (p : Dev nD × Slot) (κ : ℕ) => (cellInv ER (sched m) κ (cell p.1 p.2) : sProp 𝕄))) $$ HI
  icases HK with ⟨%K, #HI⟩
  iapply (show iprop(records m K ∗ bigSep Finset.univ fun c => turns c) ⊢ bigSep Finset.univ (ghost m) from
    (sep_mono_left (BI.bigSep_of_persistent (Finset.univ : Finset (Dev nD)) (records m K))).trans (by rw [← bigSep_sep']; exact bigSep_mono fun c _ => ghost_of m K c))
  isplitr
  · unfold records; isplitl; · iexact HI
    iexact HR
  · unfold turns; rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ghost m) :=
  ((bigSep_mono fun c _ => open_cells m c).trans (bigSep_fupd _ _)).trans (BI.fupd_mono (distribute m))

/-! ## The credits -/

theorem credit_of (c : Dev nD) (k : Slot) (hk : debts.countP (fun l => decide (l = k)) = 1) :
    tallyOn (cell c k) (launchCredit (Pipeline.owing fun d => owed d debts) 0 (cell c k)) = (tallyAt (cell c k) () (amt k) : CellTallies nD τ sig Unit) := by
  unfold tallyAt; refine congrArg _ (Finsupp.ext fun u => ?_); cases u
  rw [Pipeline.launchCredit_owing, Finsupp.single_eq_same, Finset.sum_congr rfl fun d _ => owed_at c d k debts,
    Finset.sum_ite_eq' Finset.univ (mate c) fun _ => debts.countP (fun l => decide (l = k)) * amt k, if_pos (Finset.mem_univ _), hk, Nat.one_mul]

omit [FloatOps F] [Named F] in
theorem credits_slots (c : Dev nD) : (Pipeline.launchCred (fun d => owed d debts) c : sProp 𝕄)
    ⊢ bigSep Finset.univ fun k : Slot => cred (tallyOn (cell c k) (launchCredit (Pipeline.owing fun d => owed d debts) 0 (cell c k))) := by
  unfold Pipeline.launchCred
  exact (bigSep_subset (Finset.subset_univ (Finset.univ.map ⟨semOf, semOf_inj⟩))).trans (Entails.of_eq (bigSep_map _))

omit [FloatOps F] [Named F] in
theorem credits_of (c : Dev nD) : (Pipeline.launchCred (fun d => owed d debts) c : sProp 𝕄) ⊢ credits c := by
  unfold credits
  iintro H
  ihave H := (credits_slots (F := F) c) $$ H
  ihave H := (Entails.of_eq (bigSep_slot (F := F) _)) $$ H
  rw [credit_of c bar (by decide), credit_of c (rcv 0) (by decide), credit_of c (rcv 1) (by decide), credit_of c (rcv 2) (by decide)]
  icases H with ⟨HB, -, -, -, H0, H1, H2⟩
  isplitl [HB]; · iexact HB
  isplitl [H0]; · iexact H0
  isplitl [H1] <;> iassumption

/-! ## Entry and exit -/

theorem start_of (c : Dev nD) :
    iprop(Pipeline.unscopedRestP Pipeline.Prefetch.none cfg0.spec c (fun b => m ((c : Thread nD τ).loc b)) ∗ levAts L lv
        ∗ Pipeline.launchCred (fun d => owed d debts) c ∗ prngReg c (ρ c) ∗ ghost m c)
      ⊢ |={Set.univ}=> iprop(start m c ∗ emp) := by
  iintro ⟨-, Hlev, Hcr, -, HG⟩
  ihave Hc := (credits_of (F := F) c) $$ Hcr
  imodintro
  unfold start
  isplitl
  · isplitl [HG]; · iexact HG
    isplitl [Hc] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, scopedRest0_eq]
  unfold before scratch
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after c from rfl, scopedRest0_eq]
  unfold after scratch
  iintro ⟨Hr, Hz⟩
  ihave Hz := (counters_eq (F := F) c).2 $$ Hz
  icases Hz with ⟨Ho, Hu⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ debts (by fin_cases w <;> fin_cases s <;> decide)
    · exact mayWait c _ [] (by simp)

/-! ## The run -/

/-- Array `w` of device `c` after the run. -/
def final (c : Dev nD) (w : Fin cfg0.W) : Buf (Elt F) ((cfg0.win w).arr.view.loc (c : Thread nD τ)) := (dats m ρ 0 c).arrAt w cfg0.N

/-- From any memory with the counters at zero every fair run of the eight devices ends, each array at `final` and every counter at zero. -/
theorem run_main : θ_run defs (onTc (τ := τ) (main (F := F))) (start₀ m ρ)
    (fun r => (∀ c : Dev nD, ∀ w : Fin cfg0.W, r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owed d debts) (howed₀ := fun _ => rfl) (howedN := fun _ => rfl)
    (L := L) (lv := lv) (hL := L_of_ne) (hwaits := waits m ρ)
    (G := dealt m) (G' := ghost m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_of m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument array holds after the run what it held before. -/
theorem final_in (c : Dev nD) (w : Fin 9) (hw : (cfg0.win w).isOut = false) : final m ρ c w = m ((cfg0.win w).arr.view.loc (c : Thread nD τ)) :=
  (dats (F := F) m ρ 0 c).arrAt_in w hw _

end Cert.Mla

end
-- ==== Proof.Frames.lean ====
/-
The frames of the kernel, as printed and with its constant named: one run, read at two kinds of float values.
-/
module

public import proofs.«01_k».proof.Defs
public import proofs.«01_k».proof.Proof.Gen.Kernel
public import proofs.«01_k».proof.Proof.Launch

@[expose] public section

set_option maxRecDepth 65536

noncomputable section

namespace Cert.Mla

open Idealize.ShloMosaic Idealize.SL.Sem

/-- At the bit-exact values a named constant is its printed bits: with this the two programs are one text. -/
@[reducible] def bitsNamed : Named Bits := ⟨fun _ _ {φ} bits => Scalar.ofBits φ bits⟩

section Any
open Cert.KernelIdeal

variable {F : FTy → Type} [FloatOps F] [Named F]

/-- Over any float values: the run ends, the eight arguments hold what they held, every counter is at zero. -/
theorem frame_any (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run Cert.KernelIdeal.defs _ _).mono
    (fun _ h => ⟨fun c => ⟨(h.1 c 0).trans (final_in m ρ c 0 rfl), (h.1 c 1).trans (final_in m ρ c 1 rfl), (h.1 c 2).trans (final_in m ρ c 2 rfl),
      (h.1 c 3).trans (final_in m ρ c 3 rfl), (h.1 c 4).trans (final_in m ρ c 4 rfl), (h.1 c 5).trans (final_in m ρ c 5 rfl),
      (h.1 c 6).trans (final_in m ρ c 6 rfl), (h.1 c 7).trans (final_in m ρ c 7 rfl)⟩, h.2⟩)
    (run_main m ρ)

end Any

theorem frame_ideal : Cert.quiescent_KernelIdeal := fun m ρ _ => frame_any m ρ

/-! The printed program is the named one read with `bitsNamed`. -/

attribute [local instance] bitsNamed

theorem body_same : Cert.Kernel.cc0_body (F := Bits) = Cert.KernelIdeal.cc0_body (F := Bits) := rfl

theorem calls_same : Cert.Kernel.defs₀ (F := Bits) = Cert.KernelIdeal.defs₀ (F := Bits) := by
  refine congrArg (Defs.onTc (τ := Cert.KernelIdeal.τ)) (funext fun i => funext fun a => ?_)
  match i, a with
  | 0, (t, s) => exact rfl

theorem defs_same : Cert.Kernel.defs (F := Bits) = Cert.KernelIdeal.defs (F := Bits) :=
  congrArg (Pipeline.defs (Cert.KernelIdeal.pcfgs (F := Bits))) calls_same

theorem frame_kernel : Cert.quiescent_Kernel := by
  intro m ρ _
  rw [defs_same]
  exact frame_any (F := Bits) m ρ

end Cert.Mla

end
-- ==== Proof.Attention.lean ====
/-
Attention over real matrices: the function both programs are shown to compute.

Rows are flat, `row b s` for batch `b` and position `s`; columns are flat too, `col h d` for head `h` and its lane `d`.
-/
module

public import Idealize.ShloMosaic.PureOps.Ideal.Laws
public import Idealize.ShloMosaic.Lib.Pointwise

@[expose] public section

noncomputable section

namespace Cert.Mla

open Idealize.ShloMosaic

/-! ## The function -/

def row (b : Fin 2) (s : Fin 256) : Fin 512 := ⟨256 * b.val + s.val, by omega⟩
def col (h : Fin 16) (d : Fin 64) : Fin 1024 := ⟨64 * h.val + d.val, by omega⟩
def ropeCol (h : Fin 16) (d : Fin 32) : Fin 512 := ⟨32 * h.val + d.val, by omega⟩

abbrev rowBatch (r : Fin 512) : Fin 2 := ⟨r.val / 256, by omega⟩
abbrev rowPos (r : Fin 512) : Fin 256 := ⟨r.val % 256, by omega⟩
abbrev colHead (n : Fin 1024) : Fin 16 := ⟨n.val / 64, by omega⟩
abbrev colLane (n : Fin 1024) : Fin 64 := ⟨n.val % 64, by omega⟩

theorem rowBatch_row (b : Fin 2) (s : Fin 256) : rowBatch (row b s) = b := Fin.ext (show (256 * b.val + s.val) / 256 = b.val by omega)
theorem rowPos_row (b : Fin 2) (s : Fin 256) : rowPos (row b s) = s := Fin.ext (show (256 * b.val + s.val) % 256 = s.val by omega)
theorem col_swap (h : Fin 16) (d : Fin 64) (hlt : h.val * 64 + d.val < 1024) : (⟨h.val * 64 + d.val, hlt⟩ : Fin 1024) = col h d :=
  Fin.ext (show h.val * 64 + d.val = 64 * h.val + d.val by omega)
theorem ropeCol_swap (h : Fin 16) (d : Fin 32) (hlt : h.val * 32 + d.val < 512) : (⟨h.val * 32 + d.val, hlt⟩ : Fin 512) = ropeCol h d :=
  Fin.ext (show h.val * 32 + d.val = 32 * h.val + d.val by omega)
theorem row_parts (r : Fin 512) : row (rowBatch r) (rowPos r) = r := Fin.ext (show 256 * (r.val / 256) + r.val % 256 = r.val by omega)
theorem col_parts (n : Fin 1024) : col (colHead n) (colLane n) = n := Fin.ext (show 64 * (n.val / 64) + n.val % 64 = n.val by omega)

abbrev Mat (a b : ℕ) := Fin a → Fin b → ℝ

def mm {a b c : ℕ} (A : Mat a b) (B : Mat b c) : Mat a c := fun i j => ∑ k, A i k * B k j

/-- The eight argument arrays, the activations' two leading axes flattened. -/
structure Args where
  x : Mat 512 1024
  dkv : Mat 1024 128
  uk : Mat 128 1024
  uv : Mat 128 1024
  q : Mat 1024 1024
  qr : Mat 1024 512
  kr : Mat 1024 32
  o : Mat 1024 1024

namespace Args

variable (a : Args)

def key : Mat 512 1024 := mm (mm a.x a.dkv) a.uk
def val : Mat 512 1024 := mm (mm a.x a.dkv) a.uv
def query : Mat 512 1024 := mm a.x a.q
def ropeQuery : Mat 512 512 := mm a.x a.qr
def ropeKey : Mat 512 32 := mm a.x a.kr

/-- A query's score against a key, unscaled. -/
def score (b : Fin 2) (h : Fin 16) (s t : Fin 256) : ℝ :=
  (∑ d, a.query (row b s) (col h d) * a.key (row b t) (col h d)) + ∑ d, a.ropeQuery (row b s) (ropeCol h d) * a.ropeKey (row b t) d

/-- The weight of a key, before normalisation. -/
def weight (b : Fin 2) (h : Fin 16) (s t : Fin 256) : ℝ := Real.exp ((Real.sqrt 96)⁻¹ * a.score b h s t)

def head (b : Fin 2) (h : Fin 16) (s : Fin 256) (d : Fin 64) : ℝ :=
  (∑ t, a.weight b h s t * a.val (row b t) (col h d)) / ∑ t, a.weight b h s t

def heads : Mat 512 1024 := fun r n => a.head (rowBatch r) (colHead n) (rowPos r) (colLane n)

def result : Mat 512 1024 := mm a.heads a.o

theorem sum_weight_pos (b : Fin 2) (h : Fin 16) (s : Fin 256) : 0 < ∑ t, a.weight b h s t :=
  Finset.sum_pos (fun _ _ => Real.exp_pos _) ⟨0, Finset.mem_univ _⟩

end Args

/-! ## Reals inside the extended reals -/

theorem coe_sum {ι : Type*} (s : Finset ι) (f : ι → ℝ) : ((∑ i ∈ s, f i : ℝ) : EReal) = ∑ i ∈ s, (f i : EReal) :=
  map_sum (⟨⟨Real.toEReal, rfl⟩, EReal.coe_add⟩ : ℝ →+ EReal) f s

/-- An array of extended reals that holds a real matrix, and one whose rows are split into batch and position. -/
def Holds {a b : ℕ} (v : (⟨2, ![a, b]⟩ : Shape).Idx → EReal) (A : Mat a b) : Prop := ∀ i j, v (ix2 i j) = ((A i j : ℝ) : EReal)
def HoldsRows {n : ℕ} (v : (⟨3, ![2, 256, n]⟩ : Shape).Idx → EReal) (A : Mat 512 n) : Prop := ∀ b s j, v (ix3 b s j) = ((A (row b s) j : ℝ) : EReal)

/-- A sum of products of reals is a real. -/
theorem sum_mul_coe {n : ℕ} (f g : Fin n → ℝ) : ∑ k, (f k : EReal) * (g k : EReal) = ((∑ k, f k * g k : ℝ) : EReal) := by
  rw [coe_sum]; exact Finset.sum_congr rfl fun k _ => (EReal.coe_mul _ _).symm

/-- One over a nonzero real, and a quotient by one. -/
theorem div_coe_coe (x y : ℝ) (hy : y ≠ 0) : Ideal.div (x : EReal) (y : EReal) = ((x / y : ℝ) : EReal) := by
  rw [Ideal.div_coe hy, ← EReal.coe_mul, mul_one_div]

/-- A power of two whose exponent carries the factor `1 / log 2` is an exponential. -/
theorem two_rpow (c u : ℝ) : Real.rpow 2 (c * (Real.log 2)⁻¹ * u) = Real.exp (c * u) := by
  have hl : Real.log 2 ≠ 0 := (Real.log_pos (by norm_num)).ne'
  refine (Real.rpow_def_of_pos (by norm_num) _).trans ?_
  congr 1
  field_simp

/-- The greatest of finitely many reals, started from minus infinity, is a real. -/
theorem fold_max_coe {n : ℕ} (f : Fin (n + 1) → ℝ) : ∃ M : ℝ, Finset.univ.fold max (⊥ : EReal) (fun k => (f k : EReal)) = (M : EReal) := by
  have hne : Finset.univ.fold max (⊥ : EReal) (fun k => (f k : EReal)) ≠ ⊥ := by
    intro h
    have := (Finset.le_fold_max (s := Finset.univ) (f := fun k => (f k : EReal)) (b := ⊥) (f 0 : EReal)).mpr (Or.inr ⟨0, Finset.mem_univ _, le_rfl⟩)
    rw [h] at this
    exact absurd (le_bot_iff.mp this) (EReal.coe_ne_bot _)
  have hnt : Finset.univ.fold max (⊥ : EReal) (fun k => (f k : EReal)) ≠ ⊤ :=
    ((Finset.fold_max_lt _).mpr ⟨bot_lt_top, fun k _ => EReal.coe_lt_top _⟩).ne
  exact ⟨_, (EReal.coe_toReal hnt hne).symm⟩

/-- Softmax does not see a shift of its exponents. -/
theorem softmax_shift {n : ℕ} (u : Fin n → ℝ) (M : ℝ) (t : Fin n) :
    Real.exp (u t - M) / ∑ k, Real.exp (u k - M) = Real.exp (u t) / ∑ k, Real.exp (u k) := by
  simp only [Real.exp_sub, ← Finset.sum_div]
  exact div_div_div_cancel_right₀ (Real.exp_pos M).ne' _ _

/-- A sum over 128 places, by halves; `z` says which half comes first. -/
theorem sum_halves (z : ℕ) (hz : z < 2) (f : Fin 128 → ℝ) :
    (∑ j : Fin 64, f ⟨64 * z + j.val, by omega⟩) + (∑ j : Fin 64, f ⟨64 * (1 - z) + j.val, by omega⟩) = ∑ j, f j := by
  have h := Fin.sum_univ_add (a := 64) (b := 64) f
  rw [h]
  interval_cases z
  · refine congrArg₂ (· + ·) (Finset.sum_congr rfl fun j _ => congrArg f (Fin.ext ?_)) (Finset.sum_congr rfl fun j _ => congrArg f (Fin.ext ?_)) <;> simp [add_comm]
  · rw [add_comm]
    refine congrArg₂ (· + ·) (Finset.sum_congr rfl fun j _ => congrArg f (Fin.ext ?_)) (Finset.sum_congr rfl fun j _ => congrArg f (Fin.ext ?_)) <;> simp [add_comm]

end Cert.Mla

end
-- ==== Proof.Operands.lean ====
/-
The values each device computes before attention, read at a row and a column.
-/
module

public import proofs.«01_k».proof.Proof.Attention
public import proofs.«01_k».proof.Proof.Heads

@[expose] public section

set_option maxRecDepth 16384

noncomputable section

namespace Cert.Mla

open Cert.KernelIdeal Cert.KernelIdeal.Gen
open Idealize.ShloMosaic

/-- The scale of the queries, the base-two logarithm's factor included. -/
abbrev scale : ℝ := (Real.sqrt 96)⁻¹ * (Real.log 2)⁻¹

theorem named_scale : (Named.named κ "scale2" 0x3E16C740#32 : Ideal .f32) = ((scale : ℝ) : EReal) := by
  simp [Named.named, κ]

theorem rows_at (X : FVec Ideal S2x256x1024 .f32) (r : Fin 512) (k : Fin 1024) :
    k0_pay4 (F := Ideal) X (ix2 r k) = X (ix3 (rowBatch r) (rowPos r) k) := by
  pointwise [k0_pay4]

theorem lat_at (X : FVec Ideal S2x256x1024 .f32) (W : FVec Ideal S1024x64 .f32) (r : Fin 512) (j : Fin 64) :
    k0_pay5 (F := Ideal) X W (ix2 r j) = ∑ k, k0_pay4 (F := Ideal) X (ix2 r k) * W (ix2 k j) := by
  pointwise [k0_pay5]

theorem query_at (X : FVec Ideal S512x1024 .bf16) (W : FVec Ideal S1024x1024 .f32) (r : Fin 512) (n : Fin 1024) :
    k0_pay6 X W (ix2 r n) = (∑ k, X (ix2 r k) * W (ix2 k n)) * ((scale : ℝ) : EReal) := by
  rw [← named_scale]
  pointwise [k0_pay6]

theorem ropeQuery_at (X : FVec Ideal S512x1024 .bf16) (W : FVec Ideal S1024x512 .f32) (r n : Fin 512) :
    k0_pay7 X W (ix2 r n) = (∑ k, X (ix2 r k) * W (ix2 k n)) * ((scale : ℝ) : EReal) := by
  rw [← named_scale]
  pointwise [k0_pay7]

theorem ropeKey_at (X : FVec Ideal S512x1024 .bf16) (W : FVec Ideal S1024x32 .f32) (r : Fin 512) (n : Fin 32) :
    k0_pay8 X W (ix2 r n) = ∑ k, X (ix2 r k) * W (ix2 k n) := by
  pointwise [k0_pay8]

theorem key_at (L M : FVec Ideal S512x64 .bf16) (W U : FVec Ideal S64x1024 .bf16) (r : Fin 512) (n : Fin 1024) :
    k0_pay12 (k0_pay10 L W) M U (ix2 r n) = (∑ k, L (ix2 r k) * W (ix2 k n)) + ∑ k, M (ix2 r k) * U (ix2 k n) := by
  pointwise [k0_pay12, k0_pay10]

theorem val_at (L M : FVec Ideal S512x64 .bf16) (W U : FVec Ideal S64x1024 .bf16) (r : Fin 512) (n : Fin 1024) :
    k0_pay13 (k0_pay11 L W) M U (ix2 r n) = (∑ k, L (ix2 r k) * W (ix2 k n)) + ∑ k, M (ix2 r k) * U (ix2 k n) := by
  pointwise [k0_pay13, k0_pay11]

theorem keyHalf_at (W : FVec Ideal S64x1024 .f32) (j : S64x1024.Idx) : k0_pay2 (F := Ideal) W j = W j := by
  pointwise [k0_pay2]

theorem valHalf_at (W : FVec Ideal S64x1024 .f32) (j : S64x1024.Idx) : k0_pay3 (F := Ideal) W j = W j := by
  pointwise [k0_pay3]

theorem out_at (W : FVec Ideal S1024x1024 .f32) (O : FVec Ideal S2x256x1024 .bf16) (b : Fin 2) (s : Fin 256) (n : Fin 1024) :
    k0_pay1 (F := Ideal) (k0_pay79 (k0_pay9 W) O) (ix3 b s n) = ∑ k, O (ix3 b s k) * W (ix2 k n) := by
  pointwise [k0_pay1, k0_pay79, k0_pay9]

/-! ## One head -/

/-- Row `s` of head `h` in the stacked position scores. -/
def stackRow (h : Fin 16) (s : Fin 256) : Fin 4096 := ⟨256 * h.val + s.val, by omega⟩

theorem batch_at (b : Fin 2) (X : FVec Ideal S512x1024 .bf16) (s : Fin 256) (n : Fin 1024) : batch b X (ix2 s n) = X (ix2 (row b s) n) := by
  pointwise [batch, row]

theorem stack_at (X : FVec Ideal S256x512 .bf16) (h : Fin 16) (s : Fin 256) (d : Fin 32) :
    stack X (ix2 (stackRow h s) d) = X (ix2 s (ropeCol h d)) := by
  refine (concatenate_ofFn_apply (s₁ := S256x32) (t := S4096x32) 0 _ _ rfl 256 rfl _ h ?_ (ix2 s d) ?_ ?_).trans ?_
  · show (256 * h.val + s.val) / 256 = h.val
    omega
  · show s.val = (256 * h.val + s.val) % 256
    omega
  · intro a ha
    match a with
    | 0 => exact absurd rfl ha
    | 1 => rfl
  · pointwise [ropeCol]

theorem rope_at (b : Fin 2) (QR : FVec Ideal S512x512 .bf16) (KR : FVec Ideal S512x32 .bf16) (h : Fin 16) (s t : Fin 256) :
    rope b QR KR (ix2 (stackRow h s) t) = ∑ d, QR (ix2 (row b s) (ropeCol h d)) * KR (ix2 (row b t) d) := by
  pointwise [rope, stack_at]
  rfl

theorem weights_at (h : Fin 16) (K Q : FVec Ideal S256x1024 .bf16) (SR : FVec Ideal S4096x256 .f32) (s t : Fin 256) :
    weights h K Q SR (ix2 s t) = Ideal.exp2 ((∑ d, Q (ix2 s (col h d)) * K (ix2 t (col h d))) + SR (ix2 (stackRow h s) t)) := by
  pointwise [weights, head]
  rfl

theorem headPay_at (h : Fin 16) (K V Q : FVec Ideal S256x1024 .bf16) (SR : FVec Ideal S4096x256 .f32) (z : Fin 1) (s : Fin 256) (d : Fin 64) :
    headPay h K V Q SR (ix3 z s d) = (∑ t, weights h K Q SR (ix2 s t) * V (ix2 t (col h d))) * Ideal.div 1 (∑ t, weights h K Q SR (ix2 s t)) := by
  pointwise [headPay, recip, head]
  rfl

/-! ## One head over real matrices -/

theorem weights_real (a : Args) {Q K : FVec Ideal S512x1024 .bf16} {QR : FVec Ideal S512x512 .bf16} {KR : FVec Ideal S512x32 .bf16}
    (hQ : Holds Q fun r n => a.query r n * scale) (hQR : Holds QR fun r n => a.ropeQuery r n * scale)
    (hK : Holds K a.key) (hKR : Holds KR a.ropeKey) (b : Fin 2) (h : Fin 16) (s t : Fin 256) :
    weights h (batch b K) (batch b Q) (rope b QR KR) (ix2 s t) = ((a.weight b h s t : ℝ) : EReal) := by
  rw [weights_at, rope_at]
  simp only [batch_at, hQ _ _, hK _ _, hQR _ _, hKR _ _, sum_mul_coe, ← EReal.coe_add, Ideal.exp2_coe]
  congr 1
  rw [Args.weight, ← two_rpow]
  congr 1
  rw [Args.score, mul_add, Finset.mul_sum, Finset.mul_sum]
  congr 1 <;> exact Finset.sum_congr rfl fun d _ => by ring

theorem headOut_real (a : Args) {Q K V : FVec Ideal S512x1024 .bf16} {QR : FVec Ideal S512x512 .bf16} {KR : FVec Ideal S512x32 .bf16}
    (hQ : Holds Q fun r n => a.query r n * scale) (hQR : Holds QR fun r n => a.ropeQuery r n * scale)
    (hK : Holds K a.key) (hV : Holds V a.val) (hKR : Holds KR a.ropeKey) (b : Fin 2) (h : Fin 16) (z : Fin 1) (s : Fin 256) (d : Fin 64) :
    headOut Q QR KR K V b h (ix3 z s d) = ((a.head b h s d : ℝ) : EReal) := by
  rw [headOut, headPay_at]
  simp only [weights_real a hQ hQR hK hKR, batch_at, hV _ _, sum_mul_coe, ← coe_sum]
  rw [← EReal.coe_one, div_coe_coe _ _ (a.sum_weight_pos b h s).ne', ← EReal.coe_mul, mul_one_div, Args.head]

theorem out_real (a : Args) {Q K V : FVec Ideal S512x1024 .bf16} {QR : FVec Ideal S512x512 .bf16} {KR : FVec Ideal S512x32 .bf16} {W : FVec Ideal S1024x1024 .f32}
    (hQ : Holds Q fun r n => a.query r n * scale) (hQR : Holds QR fun r n => a.ropeQuery r n * scale)
    (hK : Holds K a.key) (hV : Holds V a.val) (hKR : Holds KR a.ropeKey) (hW : Holds W a.o) (b : Fin 2) (s : Fin 256) (n : Fin 1024) :
    k0_pay1 (F := Ideal) (k0_pay79 (k0_pay9 W) (allHeads (headOut Q QR KR K V))) (ix3 b s n) = ((a.result (row b s) n : ℝ) : EReal) := by
  rw [out_at]
  have e : ∀ k, allHeads (headOut Q QR KR K V) (ix3 b s k) = ((a.heads (row b s) k : ℝ) : EReal) := fun k => by
    rw [Args.heads, rowBatch_row, rowPos_row, ← headOut_real a hQ hQR hK hV hKR b (colHead k) 0 s (colLane k)]
    show headOut Q QR KR K V b (colHead k) _ = _
    congr 1
    funext i
    match i with
    | 0 => rfl
    | 1 => rfl
    | 2 => rfl
  simp only [e, hW _ _, sum_mul_coe]
  rfl

end Cert.Mla

end
-- ==== Proof.Reference.lean ====
/-
The reference's values, read at an index stage by stage: its result is attention over real matrices.
-/
module

public import proofs.«01_k».proof.Proof.Attention
public import proofs.«01_k».proof.Proof.Gen.ReferenceIdeal.Read

@[expose] public section

set_option maxRecDepth 16384

noncomputable section

namespace Cert.Mla.Ref

open Cert.ReferenceIdeal Cert.ReferenceIdeal.Gen Cert.ReferenceIdeal.Read
open Idealize.ShloMosaic

/-- The reference's arguments hold the matrices of `a`. -/
structure Given (a : Args) (x0 : FVec Ideal S2x256x1024 .f32) (x1 : FVec Ideal S1024x128 .f32) (x2 x3 : FVec Ideal S128x1024 .f32)
    (x4 : FVec Ideal S1024x1024 .f32) (x5 : FVec Ideal S1024x512 .f32) (x6 : FVec Ideal S1024x32 .f32) (x7 : FVec Ideal S1024x1024 .f32) : Prop where
  x : HoldsRows x0 a.x
  dkv : Holds x1 a.dkv
  uk : Holds x2 a.uk
  uv : Holds x3 a.uv
  q : Holds x4 a.q
  qr : Holds x5 a.qr
  kr : Holds x6 a.kr
  o : Holds x7 a.o

variable {a : Args} {x0 : FVec Ideal S2x256x1024 .f32} {x1 : FVec Ideal S1024x128 .f32} {x2 x3 : FVec Ideal S128x1024 .f32}
    {x4 : FVec Ideal S1024x1024 .f32} {x5 : FVec Ideal S1024x512 .f32} {x6 : FVec Ideal S1024x32 .f32} {x7 : FVec Ideal S1024x1024 .f32}
    (G : Given a x0 x1 x2 x3 x4 x5 x6 x7)

include G

theorem lat_real : HoldsRows (val_main_v0 (F := Ideal) x0 x1) (mm a.x a.dkv) := fun b s j => by
  pointwise [val_main_v0]
  simp only [G.x _ _ _, G.dkv _ _, sum_mul_coe]
  rfl

theorem key_real (b : Fin 2) (s : Fin 256) (h : Fin 16) (d : Fin 64) :
    val_main_v2 (F := Ideal) x0 x1 x2 (ix4 b s h d) = ((a.key (row b s) (col h d) : ℝ) : EReal) := by
  pointwise [val_main_v2, val_main_v1]
  simp only [lat_real G _ _ _, G.uk _ _, col_swap, sum_mul_coe]
  rfl

theorem val_real (b : Fin 2) (s : Fin 256) (h : Fin 16) (d : Fin 64) :
    val_main_v4 (F := Ideal) x0 x1 x3 (ix4 b s h d) = ((a.val (row b s) (col h d) : ℝ) : EReal) := by
  pointwise [val_main_v4, val_main_v3]
  simp only [lat_real G _ _ _, G.uv _ _, col_swap, sum_mul_coe]
  rfl

theorem query_real (b : Fin 2) (s : Fin 256) (h : Fin 16) (d : Fin 64) :
    val_main_v6 (F := Ideal) x0 x4 (ix4 b s h d) = ((a.query (row b s) (col h d) : ℝ) : EReal) := by
  pointwise [val_main_v6, val_main_v5]
  simp only [G.x _ _ _, G.q _ _, col_swap, sum_mul_coe]
  rfl

theorem ropeQuery_real (b : Fin 2) (s : Fin 256) (h : Fin 16) (d : Fin 32) :
    val_main_v8 (F := Ideal) x0 x5 (ix4 b s h d) = ((a.ropeQuery (row b s) (ropeCol h d) : ℝ) : EReal) := by
  pointwise [val_main_v8, val_main_v7]
  simp only [G.x _ _ _, G.qr _ _, ropeCol_swap, sum_mul_coe]
  rfl

theorem ropeKey_real (b : Fin 2) (s : Fin 256) (h : Fin 16) (d : Fin 32) :
    val_main_v14 (F := Ideal) x0 x6 (ix4 b s h d) = ((a.ropeKey (row b s) d : ℝ) : EReal) := by
  pointwise [val_main_v14, val_main_v10, val_main_v9]
  simp only [G.x _ _ _, G.kr _ _, sum_mul_coe]
  rfl

omit G in
theorem ofBits_96 : Ideal.ofBits .f32 0x42C00000#32 = ((96 : ℝ) : EReal) := by
  simp [Ideal.ofBits, Ideal.ieee, -EReal.coe_mul]; norm_num

omit G in
theorem ofBits_least : Ideal.ofBits .f32 0xFF800000#32 = (⊥ : EReal) := by
  simp [Ideal.ofBits, Ideal.ieee]

omit G in
/-- The scale, one over the root of 96. -/
theorem scale_real (j : S_.Idx) : val_main_v12 (F := Ideal) j = (((Real.sqrt 96)⁻¹ : ℝ) : EReal) := by
  have h96 : Real.sqrt 96 ≠ 0 := (Real.sqrt_pos.mpr (by norm_num)).ne'
  pointwise [val_main_v12, val_main_v11, val_main_cst, val_main_cst_0]
  rw [ofBits_96, Ideal.sqrt_coe, if_neg (by norm_num), ← EReal.coe_one, div_coe_coe _ _ h96, one_div]

theorem score_real (b : Fin 2) (h : Fin 16) (s t : Fin 256) :
    val_main_v18 (F := Ideal) x0 x1 x2 x4 x5 x6 (ix4 b h s t) = (((Real.sqrt 96)⁻¹ * a.score b h s t : ℝ) : EReal) := by
  pointwise [val_main_v18, val_main_v17, val_main_v16, val_main_v15, val_main_v13]
  simp only [key_real G, query_real G, ropeKey_real G, ropeQuery_real G, scale_real, sum_mul_coe, ← EReal.coe_add, ← EReal.coe_mul]
  congr 1
  exact mul_comm _ _

/-- The row's greatest score, subtracted before exponentiating, is a real. -/
theorem greatest_real (b : Fin 2) (h : Fin 16) (s : Fin 256) :
    ∃ M : ℝ, val_main_v19 (F := Ideal) x0 x1 x2 x4 x5 x6 (ix3 b h s) = (M : EReal) := by
  pointwise [val_main_v19]
  have e : val_main_cst_1 (F := Ideal) (Shape.Idx.first h_S_) = (⊥ : EReal) := ofBits_least
  simp only [score_real G, e]
  exact fold_max_coe (n := 255) _

theorem exp_real {b : Fin 2} {h : Fin 16} {s : Fin 256} {M : ℝ} (hM : val_main_v19 (F := Ideal) x0 x1 x2 x4 x5 x6 (ix3 b h s) = (M : EReal)) (t : Fin 256) :
    val_main_v23 (F := Ideal) x0 x1 x2 x4 x5 x6 (ix4 b h s t) = ((Real.exp ((Real.sqrt 96)⁻¹ * a.score b h s t - M) : ℝ) : EReal) := by
  pointwise [val_main_v23, val_main_v22, val_main_v21, val_main_v20]
  simp only [score_real G, hM, ← EReal.coe_sub]
  rfl

theorem weight_real (b : Fin 2) (h : Fin 16) (s t : Fin 256) :
    val_main_v27 (F := Ideal) x0 x1 x2 x4 x5 x6 (ix4 b h s t) = ((a.weight b h s t / ∑ k, a.weight b h s k : ℝ) : EReal) := by
  obtain ⟨M, hM⟩ := greatest_real G b h s
  pointwise [val_main_v27, val_main_v26, val_main_v25, val_main_v24, val_main_cst_2]
  have hp : (∑ k, Real.exp ((Real.sqrt 96)⁻¹ * a.score b h s k - M)) ≠ 0 :=
    (Finset.sum_pos (fun _ _ => Real.exp_pos _) ⟨0, Finset.mem_univ _⟩).ne'
  simp only [exp_real G hM, ← coe_sum]
  rw [div_coe_coe _ _ hp]
  exact congrArg _ (softmax_shift (fun k => (Real.sqrt 96)⁻¹ * a.score b h s k) M t)

theorem heads_real : HoldsRows (val_main_v30 (F := Ideal) x0 x1 x2 x3 x4 x5 x6) a.heads := fun b s n => by
  pointwise [val_main_v30, val_main_v29, val_main_v28]
  simp only [val_real G, weight_real G, sum_mul_coe]
  rw [Args.heads, rowBatch_row, rowPos_row, Args.head, Finset.sum_div]
  congr 1
  exact Finset.sum_congr rfl fun t _ => by ring

theorem result_real : HoldsRows (val_main_v31 (F := Ideal) x0 x1 x2 x3 x4 x5 x6 x7) a.result := fun b s n => by
  pointwise [val_main_v31]
  simp only [heads_real G _ _ _, G.o _ _, sum_mul_coe]
  rfl

end Cert.Mla.Ref

end
-- ==== Proof.Finite.lean ====
/-
The precondition read back: every element of every argument array, on every device, is a real number.
-/
module

public import proofs.«01_k».proof.Defs
public import proofs.«01_k».proof.Proof.Gen.Pre_finite_KernelIdeal
public import Idealize.ShloMosaic.Lib.ReduceAll
public import Idealize.ShloMosaic.Lib.Pointwise
public import Idealize.ShloMosaic.PureOps.Ideal.Laws

@[expose] public section

set_option maxRecDepth 16384

noncomputable section

namespace Cert.Mla

open Cert.Pre_finite_KernelIdeal Cert.Pre_finite_KernelIdeal.Gen
open Idealize.ShloMosaic

/-- Every element is a real number. -/
def AllReal {s : Shape} (x : s.Idx → EReal) : Prop := ∀ i, ∃ r : ℝ, x i = (r : EReal)

theorem ofBits_greatest : Ideal.ofBits .f32 0x7F800000#32 = (⊤ : EReal) := by
  simp [Ideal.ofBits, Ideal.ieee]

/-- An extended real whose absolute value is below plus infinity is a real. -/
theorem real_of_abs_lt (x : EReal) (h : max x (-x) < ⊤) : ∃ r : ℝ, x = (r : EReal) := by
  induction x with
  | bot => simp at h
  | top => simp at h
  | coe r => exact ⟨r, rfl⟩

/-- One array's check: the conjunction over all its elements holds only if all are real. -/
theorem allReal_of_check {s : Shape} {axes : List (Fin s.rank)} (x : FVec Ideal s .f32) (hb : S_.BroadcastsInDim s (![] : Fin 0 → Fin s.rank))
    (hr : s.ReducesTo axes S_) (init : IVec S_ 1)
    (h : Host.reduce IntOp.andi (cmpf .olt (Host.absf x) (broadcastInDim s ![] hb (constant S_ .f32 0x7F800000#32))) init hr h_S_ ix0 = 1#1) : AllReal x := by
  intro i
  haveI : Subsingleton S_.Idx := ⟨fun a b => funext fun k => k.elim0⟩
  have e := Host.reduce_andi_all _ _ hr h_S_ ix0 h i
  have e' : BitVec.ofBool (decide (max (x i) (-(x i)) < Ideal.ofBits .f32 0x7F800000#32)) = 1#1 := e
  rw [ofBits_greatest] at e'
  refine real_of_abs_lt _ ?_
  by_contra hn
  rw [decide_eq_false hn] at e'
  exact absurd e' (by decide)

/-- The eight arrays of one device. -/
theorem allReal_of_fn (x0 : FVec Ideal S2x256x1024 .f32) (x1 : FVec Ideal S1024x64 .f32) (x2 x3 : FVec Ideal S64x1024 .f32) (x4 : FVec Ideal S1024x1024 .f32)
    (x5 : FVec Ideal S1024x512 .f32) (x6 : FVec Ideal S1024x32 .f32) (x7 : FVec Ideal S1024x1024 .f32) (h : fn (F := Ideal) x0 x1 x2 x3 x4 x5 x6 x7 = fun _ => 1#1) :
    AllReal x0 ∧ AllReal x1 ∧ AllReal x2 ∧ AllReal x3 ∧ AllReal x4 ∧ AllReal x5 ∧ AllReal x6 ∧ AllReal x7 := by
  have h := congrFun h ix0
  unfold fn fn_part1 fn_part2 at h
  obtain ⟨h, e7⟩ := IntOp.andi_eq_one.1 h
  obtain ⟨h, e6⟩ := IntOp.andi_eq_one.1 h
  obtain ⟨h, e5⟩ := IntOp.andi_eq_one.1 h
  obtain ⟨h, e4⟩ := IntOp.andi_eq_one.1 h
  obtain ⟨h, e3⟩ := IntOp.andi_eq_one.1 h
  obtain ⟨h, e2⟩ := IntOp.andi_eq_one.1 h
  obtain ⟨e0, e1⟩ := IntOp.andi_eq_one.1 h
  exact ⟨allReal_of_check _ _ _ _ e0, allReal_of_check _ _ _ _ e1, allReal_of_check _ _ _ _ e2, allReal_of_check _ _ _ _ e3,
    allReal_of_check _ _ _ _ e4, allReal_of_check _ _ _ _ e5, allReal_of_check _ _ _ _ e6, allReal_of_check _ _ _ _ e7⟩

end Cert.Mla

end
-- ==== Proof.Value.lean ====
/-
The value claim: from real arguments every device's result buffer ends holding what the reference computes of the whole arrays.
-/
module

public import proofs.«01_k».proof.Proof.Operands
public import proofs.«01_k».proof.Proof.Reference
public import proofs.«01_k».proof.Proof.Finite
public import proofs.«01_k».proof.Proof.Launch

@[expose] public section

set_option maxRecDepth 16384

noncomputable section

namespace Cert.Mla

open Cert.KernelIdeal Cert.KernelIdeal.Gen
open Idealize.ShloMosaic
open Idealize.ShloMosaic.TcCoe
open Idealize.SL Idealize.SL.Sem

/-! ## The staged operands are the argument arrays, the result array what the body left -/

section Whole

variable {F : FTy → Type} [FloatOps F] [Named F]
variable (m : (ℓ : Loc nD τ sig) → Buf (Elt F) ℓ) (ρ : Dev nD → PrngReg) (c : Dev nD)

theorem opX_eq : opX m c = m ((c : Thread nD τ).loc main_arg0) :=
  Memref.read_access_unit_zero (Elt F) main_arg0 (funext fun a => by fin_cases a <;> decide) (fun a => by fin_cases a <;> decide) _
theorem opDkv_eq : opDkv m c = m ((c : Thread nD τ).loc main_arg1) :=
  Memref.read_access_unit_zero (Elt F) main_arg1 (funext fun a => by fin_cases a <;> decide) (fun a => by fin_cases a <;> decide) _
theorem opUk_eq : opUk m c = m ((c : Thread nD τ).loc main_arg2) :=
  Memref.read_access_unit_zero (Elt F) main_arg2 (funext fun a => by fin_cases a <;> decide) (fun a => by fin_cases a <;> decide) _
theorem opUv_eq : opUv m c = m ((c : Thread nD τ).loc main_arg3) :=
  Memref.read_access_unit_zero (Elt F) main_arg3 (funext fun a => by fin_cases a <;> decide) (fun a => by fin_cases a <;> decide) _
theorem opQ_eq : opQ m c = m ((c : Thread nD τ).loc main_arg4) :=
  Memref.read_access_unit_zero (Elt F) main_arg4 (funext fun a => by fin_cases a <;> decide) (fun a => by fin_cases a <;> decide) _
theorem opQr_eq : opQr m c = m ((c : Thread nD τ).loc main_arg5) :=
  Memref.read_access_unit_zero (Elt F) main_arg5 (funext fun a => by fin_cases a <;> decide) (fun a => by fin_cases a <;> decide) _
theorem opKr_eq : opKr m c = m ((c : Thread nD τ).loc main_arg6) :=
  Memref.read_access_unit_zero (Elt F) main_arg6 (funext fun a => by fin_cases a <;> decide) (fun a => by fin_cases a <;> decide) _
theorem opO_eq : opO m c = m ((c : Thread nD τ).loc main_arg7) :=
  Memref.read_access_unit_zero (Elt F) main_arg7 (funext fun a => by fin_cases a <;> decide) (fun a => by fin_cases a <;> decide) _

/-- The result window's one block is the whole array, and the one flush writes what the body left there. -/
theorem final_out : final m ρ c 8 = outAt m c := by
  have hw : (win0_8.blk (0 : Fin 1)).view.read (Elt F) (final m ρ c 8) = outAt m c := by
    unfold final
    rw [show cfg0.N = ((0 : Fin 1) : Fin cfg0.N).val + 1 from rfl, (dats m ρ 0 c).arrAt_succ (8 : Fin 9) (0 : Fin 1),
      show (cfg0.win (8 : Fin 9)).flush (0 : Fin 1) = true from by decide, if_pos rfl]
    exact View.read_write_univ _ _
  exact (Memref.read_access_unit_zero (Elt F) main_v1 (funext fun a => by fin_cases a <;> decide) (fun a => by fin_cases a <;> decide) _).symm.trans hw

end Whole

/-! ## One device's values over real matrices -/

/-- Where device `c`'s half of the latent columns lies among all of them. -/
def half (c : Dev nD) (j : Fin 64) : Fin 128 := ⟨64 * (c.val % 2) + j.val, by omega⟩

theorem mate_half (c : Dev nD) : (mate c).val % 2 = 1 - c.val % 2 := by revert c; decide

/-- The two devices of a pair cover all the latent columns. -/
theorem sum_mates (c : Dev nD) (f : Fin 128 → ℝ) : (∑ j, f (half c j)) + (∑ j, f (half (mate c) j)) = ∑ j, f j := by
  rw [← sum_halves (c.val % 2) (Nat.mod_lt _ (by decide)) f]
  refine congrArg₂ (· + ·) rfl (Finset.sum_congr rfl fun j _ => congrArg f (Fin.ext ?_))
  show 64 * ((mate c).val % 2) + j.val = _
  rw [mate_half]

/-- Every device's argument arrays hold its part of the matrices of `a`. -/
structure Parts (a : Args) (m : (ℓ : Loc nD τ sig) → Buf (Elt Ideal) ℓ) : Prop where
  x : ∀ c, HoldsRows (opX m c) a.x
  dkv : ∀ c, Holds (opDkv m c) fun k j => a.dkv k (half c j)
  uk : ∀ c, Holds (opUk m c) fun j n => a.uk (half c j) n
  uv : ∀ c, Holds (opUv m c) fun j n => a.uv (half c j) n
  q : ∀ c, Holds (opQ m c) a.q
  qr : ∀ c, Holds (opQr m c) a.qr
  kr : ∀ c, Holds (opKr m c) a.kr
  o : ∀ c, Holds (opO m c) a.o

section Device

variable {a : Args} {m : (ℓ : Loc nD τ sig) → Buf (Elt Ideal) ℓ} (P : Parts a m) (c : Dev nD)

include P

theorem rowsX_real : Holds (rowsX m c) a.x := fun r k => by
  rw [rowsX, rows_at, P.x c _ _ _, row_parts]

theorem latHalf_real : Holds (latHalf m c) fun r j => mm a.x a.dkv r (half c j) := fun r j => by
  rw [latHalf, lat_at]
  have hx : ∀ k, k0_pay4 (F := Ideal) (opX m c) (ix2 r k) = ((a.x r k : ℝ) : EReal) := fun k => rowsX_real P c r k
  simp only [hx, P.dkv c _ _, sum_mul_coe]
  rfl

theorem keyHalf_real : Holds (keyHalf m c) fun j n => a.uk (half c j) n := fun j n => by
  rw [keyHalf, keyHalf_at, P.uk c _ _]

theorem valHalf_real : Holds (valHalf m c) fun j n => a.uv (half c j) n := fun j n => by
  rw [valHalf, valHalf_at, P.uv c _ _]

theorem keys_real : Holds (keys m c) a.key := fun r n => by
  rw [keys, key_at]
  simp only [latHalf_real P _ _ _, keyHalf_real P _ _ _, sum_mul_coe, ← EReal.coe_add]
  exact congrArg _ (sum_mates c fun j => mm a.x a.dkv r j * a.uk j n)

theorem vals_real : Holds (vals m c) a.val := fun r n => by
  rw [vals, val_at]
  simp only [latHalf_real P _ _ _, valHalf_real P _ _ _, sum_mul_coe, ← EReal.coe_add]
  exact congrArg _ (sum_mates c fun j => mm a.x a.dkv r j * a.uv j n)

theorem projQ_real : Holds (projQ m c) fun r n => a.query r n * scale := fun r n => by
  rw [projQ, query_at]
  simp only [rowsX_real P c _ _, P.q c _ _, sum_mul_coe, ← EReal.coe_mul]
  rfl

theorem projQr_real : Holds (projQr m c) fun r n => a.ropeQuery r n * scale := fun r n => by
  rw [projQr, ropeQuery_at]
  simp only [rowsX_real P c _ _, P.qr c _ _, sum_mul_coe, ← EReal.coe_mul]
  rfl

theorem projKr_real : Holds (projKr m c) a.ropeKey := fun r n => by
  rw [projKr, ropeKey_at]
  simp only [rowsX_real P c _ _, P.kr c _ _, sum_mul_coe]
  rfl

theorem outAt_real : HoldsRows (outAt m c) a.result :=
  out_real a (projQ_real P c) (projQr_real P c) (keys_real P c) (vals_real P c) (projKr_real P c) (P.o c)

end Device

/-! ## The arrays cut in two -/

theorem cut_cols (X : (⟨2, ![1024, 128]⟩ : Shape).Idx → EReal) (c : Dev nD) (k : Fin 1024) (j : Fin 64) :
    Layout.blockN ⟨2, ![1024, 64]⟩ ⟨2, ![1024, 128]⟩ (Layout.meshBlock [2, 2, 2] ![[], [2]] c) X (by decide) (ix2 k j) = X (ix2 k (half c j)) := by
  rw [Layout.blockN_apply]
  congr 1
  funext i
  match i with
  | 0 => exact Fin.ext (show 0 * 1024 + k.val = k.val by omega)
  | 1 => exact Fin.ext (show (c.val / 1 % 2 * 1 + 0) * 64 + j.val = 64 * (c.val % 2) + j.val by omega)

theorem cut_rows (X : (⟨2, ![128, 1024]⟩ : Shape).Idx → EReal) (c : Dev nD) (j : Fin 64) (n : Fin 1024) :
    Layout.blockN ⟨2, ![64, 1024]⟩ ⟨2, ![128, 1024]⟩ (Layout.meshBlock [2, 2, 2] ![[2], []] c) X (by decide) (ix2 j n) = X (ix2 (half c j) n) := by
  rw [Layout.blockN_apply]
  congr 1
  funext i
  match i with
  | 0 => exact Fin.ext (show (c.val / 1 % 2 * 1 + 0) * 64 + j.val = 64 * (c.val % 2) + j.val by omega)
  | 1 => exact Fin.ext (show 0 * 1024 + n.val = n.val by omega)

/-- Every latent column is in the half of one of the first two devices. -/
theorem half_cover (k : Fin 128) : ∃ (c : Dev nD) (j : Fin 64), half c j = k :=
  ⟨⟨k.val / 64, by have : k.val < 128 := k.isLt; show k.val / 64 < 8; omega⟩, ⟨k.val % 64, Nat.mod_lt _ (by decide)⟩,
    Fin.ext (show 64 * (k.val / 64 % 2) + k.val % 64 = k.val by have := k.isLt; omega)⟩

/-! ## The claim -/

/-- The real matrix an array of reals holds. -/
def matOf {a b : ℕ} (v : (⟨2, ![a, b]⟩ : Shape).Idx → EReal) : Mat a b := fun i j => (v (ix2 i j)).toReal

theorem toReal_real {s : Shape} {v : s.Idx → EReal} (h : AllReal v) (i : s.Idx) : (((v i).toReal : ℝ) : EReal) = v i := by
  obtain ⟨r, hr⟩ := h i
  rw [hr, EReal.toReal_coe]

theorem AllReal.of_eq {s : Shape} {v w : s.Idx → EReal} (h : AllReal v) (e : v = w) : AllReal w := e ▸ h

theorem holds_matOf {a b : ℕ} {v : (⟨2, ![a, b]⟩ : Shape).Idx → EReal} (h : AllReal v) : Holds v (matOf v) := fun i j => (toReal_real h _).symm

theorem allReal_cols {X : (⟨2, ![1024, 128]⟩ : Shape).Idx → EReal}
    (h : ∀ c : Dev nD, AllReal (Layout.blockN ⟨2, ![1024, 64]⟩ ⟨2, ![1024, 128]⟩ (Layout.meshBlock [2, 2, 2] ![[], [2]] c) X (by decide))) : AllReal X := fun i => by
  obtain ⟨c, j, hj⟩ := half_cover (i 1)
  obtain ⟨r, hr⟩ := h c (ix2 (i 0) j)
  have e := (cut_cols X c (i 0) j).symm.trans hr
  rw [hj] at e
  exact ⟨r, (congrArg X (ix2_eta i)).symm.trans e⟩

theorem allReal_rows {X : (⟨2, ![128, 1024]⟩ : Shape).Idx → EReal}
    (h : ∀ c : Dev nD, AllReal (Layout.blockN ⟨2, ![64, 1024]⟩ ⟨2, ![128, 1024]⟩ (Layout.meshBlock [2, 2, 2] ![[2], []] c) X (by decide))) : AllReal X := fun i => by
  obtain ⟨c, j, hj⟩ := half_cover (i 0)
  obtain ⟨r, hr⟩ := h c (ix2 j (i 1))
  have e := (cut_rows X c j (i 1)).symm.trans hr
  rw [hj] at e
  exact ⟨r, (congrArg X (ix2_eta i)).symm.trans e⟩

theorem algebraic : Cert.algebraic_KernelIdeal_ReferenceIdeal_pre_finite_KernelIdeal := by
  intro m g m' g' hpre hag
  have hreal := fun c => allReal_of_fn _ _ _ _ _ _ _ _ (hpre c)
  let X0 : (⟨3, ![2, 256, 1024]⟩ : Shape).Idx → EReal := m' (((0 : Dev Cert.ReferenceIdeal.nD).tc : Thread Cert.ReferenceIdeal.nD Cert.ReferenceIdeal.τ).loc Cert.ReferenceIdeal.main_arg0)
  let X1 : (⟨2, ![1024, 128]⟩ : Shape).Idx → EReal := m' (((0 : Dev Cert.ReferenceIdeal.nD).tc : Thread Cert.ReferenceIdeal.nD Cert.ReferenceIdeal.τ).loc Cert.ReferenceIdeal.main_arg1)
  let X2 : (⟨2, ![128, 1024]⟩ : Shape).Idx → EReal := m' (((0 : Dev Cert.ReferenceIdeal.nD).tc : Thread Cert.ReferenceIdeal.nD Cert.ReferenceIdeal.τ).loc Cert.ReferenceIdeal.main_arg2)
  let X3 : (⟨2, ![128, 1024]⟩ : Shape).Idx → EReal := m' (((0 : Dev Cert.ReferenceIdeal.nD).tc : Thread Cert.ReferenceIdeal.nD Cert.ReferenceIdeal.τ).loc Cert.ReferenceIdeal.main_arg3)
  let X4 : (⟨2, ![1024, 1024]⟩ : Shape).Idx → EReal := m' (((0 : Dev Cert.ReferenceIdeal.nD).tc : Thread Cert.ReferenceIdeal.nD Cert.ReferenceIdeal.τ).loc Cert.ReferenceIdeal.main_arg4)
  let X5 : (⟨2, ![1024, 512]⟩ : Shape).Idx → EReal := m' (((0 : Dev Cert.ReferenceIdeal.nD).tc : Thread Cert.ReferenceIdeal.nD Cert.ReferenceIdeal.τ).loc Cert.ReferenceIdeal.main_arg5)
  let X6 : (⟨2, ![1024, 32]⟩ : Shape).Idx → EReal := m' (((0 : Dev Cert.ReferenceIdeal.nD).tc : Thread Cert.ReferenceIdeal.nD Cert.ReferenceIdeal.τ).loc Cert.ReferenceIdeal.main_arg6)
  let X7 : (⟨2, ![1024, 1024]⟩ : Shape).Idx → EReal := m' (((0 : Dev Cert.ReferenceIdeal.nD).tc : Thread Cert.ReferenceIdeal.nD Cert.ReferenceIdeal.τ).loc Cert.ReferenceIdeal.main_arg7)
  have a0 : ∀ c, opX m c = X0 := fun c => (opX_eq m c).trans (hag c).1
  have a1 : ∀ c, opDkv m c = Layout.blockN ⟨2, ![1024, 64]⟩ ⟨2, ![1024, 128]⟩ (Layout.meshBlock [2, 2, 2] ![[], [2]] c) X1 (by decide) := fun c => (opDkv_eq m c).trans (hag c).2.1
  have a2 : ∀ c, opUk m c = Layout.blockN ⟨2, ![64, 1024]⟩ ⟨2, ![128, 1024]⟩ (Layout.meshBlock [2, 2, 2] ![[2], []] c) X2 (by decide) := fun c => (opUk_eq m c).trans (hag c).2.2.1
  have a3 : ∀ c, opUv m c = Layout.blockN ⟨2, ![64, 1024]⟩ ⟨2, ![128, 1024]⟩ (Layout.meshBlock [2, 2, 2] ![[2], []] c) X3 (by decide) := fun c => (opUv_eq m c).trans (hag c).2.2.2.1
  have a4 : ∀ c, opQ m c = X4 := fun c => (opQ_eq m c).trans (hag c).2.2.2.2.1
  have a5 : ∀ c, opQr m c = X5 := fun c => (opQr_eq m c).trans (hag c).2.2.2.2.2.1
  have a6 : ∀ c, opKr m c = X6 := fun c => (opKr_eq m c).trans (hag c).2.2.2.2.2.2.1
  have a7 : ∀ c, opO m c = X7 := fun c => (opO_eq m c).trans (hag c).2.2.2.2.2.2.2
  have r0 : AllReal X0 := AllReal.of_eq (hreal 0).1 (hag 0).1
  have r1 : AllReal X1 := allReal_cols fun c => (hag c).2.1 ▸ (hreal c).2.1
  have r2 : AllReal X2 := allReal_rows fun c => (hag c).2.2.1 ▸ (hreal c).2.2.1
  have r3 : AllReal X3 := allReal_rows fun c => (hag c).2.2.2.1 ▸ (hreal c).2.2.2.1
  have r4 : AllReal X4 := AllReal.of_eq (hreal 0).2.2.2.2.1 (hag 0).2.2.2.2.1
  have r5 : AllReal X5 := AllReal.of_eq (hreal 0).2.2.2.2.2.1 (hag 0).2.2.2.2.2.1
  have r6 : AllReal X6 := AllReal.of_eq (hreal 0).2.2.2.2.2.2.1 (hag 0).2.2.2.2.2.2.1
  have r7 : AllReal X7 := AllReal.of_eq (hreal 0).2.2.2.2.2.2.2 (hag 0).2.2.2.2.2.2.2
  let a : Args := ⟨fun r k => (X0 (ix3 (rowBatch r) (rowPos r) k)).toReal, matOf X1, matOf X2, matOf X3, matOf X4, matOf X5, matOf X6, matOf X7⟩
  have hx : HoldsRows X0 a.x := fun b s k => by
    show X0 (ix3 b s k) = (((X0 (ix3 (rowBatch (row b s)) (rowPos (row b s)) k)).toReal : ℝ) : EReal)
    rw [rowBatch_row, rowPos_row, toReal_real r0]
  have G : Ref.Given a X0 X1 X2 X3 X4 X5 X6 X7 :=
    ⟨hx, holds_matOf r1, holds_matOf r2, holds_matOf r3, holds_matOf r4, holds_matOf r5, holds_matOf r6, holds_matOf r7⟩
  have P : Parts a m :=
    ⟨fun c => a0 c ▸ hx,
      fun c k j => by rw [a1 c, cut_cols]; exact holds_matOf r1 _ _,
      fun c j n => by rw [a2 c, cut_rows]; exact holds_matOf r2 _ _,
      fun c j n => by rw [a3 c, cut_rows]; exact holds_matOf r3 _ _,
      fun c => a4 c ▸ holds_matOf r4, fun c => a5 c ▸ holds_matOf r5, fun c => a6 c ▸ holds_matOf r6, fun c => a7 c ▸ holds_matOf r7⟩
  have same : ∀ c, outAt m c = Cert.ReferenceIdeal.Read.val_main_v31 (F := Ideal) X0 X1 X2 X3 X4 X5 X6 X7 := fun c => funext fun i => by
    rw [← ix3_eta i]
    exact (outAt_real P c _ _ _).trans (Ref.result_real G _ _ _).symm
  refine ⟨Cert.ReferenceIdeal.Value.res_main_v31 m' 0, ?_, ?_⟩
  · refine (θ_run Cert.KernelIdeal.defs _ _).mono (fun _ h c => ⟨(h.1 c 8).trans ((final_out m g c).trans ((same c).trans (Cert.ReferenceIdeal.Read.val_main_v31_eq m' 0).symm)),
      (h.1 c 0).trans (final_in m g c 0 rfl), (h.1 c 1).trans (final_in m g c 1 rfl), (h.1 c 2).trans (final_in m g c 2 rfl),
      (h.1 c 3).trans (final_in m g c 3 rfl), (h.1 c 4).trans (final_in m g c 4 rfl), (h.1 c 5).trans (final_in m g c 5 rfl),
      (h.1 c 6).trans (final_in m g c 6 rfl), (h.1 c 7).trans (final_in m g c 7 rfl)⟩) (run_main m g)
  · exact (θ_run Cert.ReferenceIdeal.defs _ _).mono (fun _ h => h 0) (Cert.ReferenceIdeal.Value.run (F := Ideal) m' g')

end Cert.Mla

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_KernelIdeal
public import proofs.«01_k».proof.Proof.Gen.Pre_finite_ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem constant_named : Cert.preserves_Kernel_KernelIdeal :=
  IdealRules.named_const.statement Cert.KernelIdeal.κ "scale2" .f32 0x3E16C740#32
    (((Real.sqrt 96)⁻¹ * (Real.log 2)⁻¹ : ℝ) : EReal) rfl

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts,
    Mla.frame_kernel, Mla.frame_ideal, fun m ρ _ => Mla.frame_any m ρ, frame_reference,
    fun m ρ _ => frame_reference m ρ trivial, constant_named, Mla.algebraic⟩

end Cert.Proof

end
